-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S32x4x256x256 : Shape := ⟨4, ![32, 4, 256, 256]⟩
abbrev S32x500 : Shape := ⟨2, ![32, 500]⟩
abbrev S32x500x4 : Shape := ⟨3, ![32, 500, 4]⟩
abbrev S_ : Shape := ⟨0, ![]⟩

class Facts : Prop where
  bcast_S_S32x500 : S_.BroadcastsInDim S32x500 (![] : Fin 0 → Fin S32x500.rank)
  reducesTo_S32x500_S_d0_1 : S32x500.ReducesTo [0, 1] S_
  h_S_ : 0 < S_.numel

variable [Facts]

def fn {F : FTy → Type} [FloatOps F] (main_arg0 : FVec F S32x4x256x256 .f32) (main_arg1 : FVec F S32x4x256x256 .f32) (main_arg2 : IVec S32x500 32) (main_arg3 : IVec S32x500 32) (main_arg4 : FVec F S32x500x4 .f32) : IVec S_ 1 :=
  let main_c : IVec S_ 32 := constantI S_ 32 0#32
  let main_v0 : IVec S32x500 32 := broadcastInDim S32x500 ![] bcast_S_S32x500 main_c
  let main_v1 : IVec S32x500 1 := cmpi .sge main_arg3 main_v0
  let main_c_0 : IVec S_ 1 := constantI S_ 1 1#1
  let main_v2 : IVec S_ 1 := (fun x v => Host.reduce IntOp.andi x v reducesTo_S32x500_S_d0_1 h_S_) main_v1 main_c_0
  let main_c_1 : IVec S_ 32 := constantI S_ 32 65536#32
  let main_v3 : IVec S32x500 32 := broadcastInDim S32x500 ![] bcast_S_S32x500 main_c_1
  let main_v4 : IVec S32x500 1 := cmpi .slt main_arg3 main_v3
  let main_c_2 : IVec S_ 1 := constantI S_ 1 1#1
  let main_v5 : IVec S_ 1 := (fun x v => Host.reduce IntOp.andi x v reducesTo_S32x500_S_d0_1 h_S_) main_v4 main_c_2
  let main_v6 : IVec S_ 1 := andi main_v2 main_v5
  let main_c_3 : IVec S_ 32 := constantI S_ 32 0#32
  let main_v7 : IVec S32x500 32 := broadcastInDim S32x500 ![] bcast_S_S32x500 main_c_3
  let main_v8 : IVec S32x500 1 := cmpi .eq main_arg2 main_v7
  let main_c_4 : IVec S_ 32 := constantI S_ 32 1#32
  let main_v9 : IVec S32x500 32 := broadcastInDim S32x500 ![] bcast_S_S32x500 main_c_4
  let main_v10 : IVec S32x500 1 := cmpi .eq main_arg2 main_v9
  let main_v11 : IVec S32x500 1 := ori main_v8 main_v10
  let main_c_5 : IVec S_ 1 := constantI S_ 1 1#1
  let main_v12 : IVec S_ 1 := (fun x v => Host.reduce IntOp.andi x v reducesTo_S32x500_S_d0_1 h_S_) main_v11 main_c_5
  let main_v13 : IVec S_ 1 := andi main_v6 main_v12
  main_v13
-- ==== Kernel.lean ====
abbrev S32x4x256x256 : Shape := ⟨4, ![32, 4, 256, 256]⟩
abbrev S32x500 : Shape := ⟨2, ![32, 500]⟩
abbrev S32x500x4 : Shape := ⟨3, ![32, 500, 4]⟩
abbrev S8388608 : Shape := ⟨1, ![8388608]⟩
abbrev S8x4x256x256 : Shape := ⟨4, ![8, 4, 256, 256]⟩
abbrev S2097152 : Shape := ⟨1, ![2097152]⟩
abbrev S8x4x256x128 : Shape := ⟨4, ![8, 4, 256, 128]⟩
abbrev S1048576 : Shape := ⟨1, ![1048576]⟩
abbrev S32x2048 : Shape := ⟨2, ![32, 2048]⟩
abbrev S32x512 : Shape := ⟨2, ![32, 512]⟩
abbrev S32x12 : Shape := ⟨2, ![32, 12]⟩
abbrev S64000 : Shape := ⟨1, ![64000]⟩
abbrev S32x16 : Shape := ⟨2, ![32, 16]⟩
abbrev S2048 : Shape := ⟨1, ![2048]⟩
abbrev S512 : Shape := ⟨1, ![512]⟩
abbrev S16 : Shape := ⟨1, ![16]⟩
abbrev S_ : Shape := ⟨0, ![]⟩
abbrev S1x2048 : Shape := ⟨2, ![1, 2048]⟩
abbrev S1x512 : Shape := ⟨2, ![1, 512]⟩
abbrev S1x16 : Shape := ⟨2, ![1, 16]⟩
abbrev S1 : Shape := ⟨1, ![1]⟩
abbrev S1x32x16 : Shape := ⟨3, ![1, 32, 16]⟩
abbrev S1x1x1 : Shape := ⟨3, ![1, 1, 1]⟩

abbrev nBuf : Table → Nat
  | .hbm => 16
  | .local .tc .vmem => 12
  | .local .tc .smem => 1
  | .local .scVector .vmem => 9
  | _ => 0

abbrev bufTy : (tb : Table) → Fin (nBuf tb) → BufTy
  | .hbm, ⟨0, _⟩ => ⟨S32x4x256x256, .f32⟩
  | .hbm, ⟨1, _⟩ => ⟨S32x4x256x256, .f32⟩
  | .hbm, ⟨2, _⟩ => ⟨S32x500, .i32⟩
  | .hbm, ⟨3, _⟩ => ⟨S32x500, .i32⟩
  | .hbm, ⟨4, _⟩ => ⟨S32x500x4, .f32⟩
  | .hbm, ⟨5, _⟩ => ⟨S8388608, .f32⟩
  | .hbm, ⟨6, _⟩ => ⟨S8388608, .f32⟩
  | .hbm, ⟨7, _⟩ => ⟨S32x2048, .i32⟩
  | .hbm, ⟨8, _⟩ => ⟨S32x2048, .i32⟩
  | .hbm, ⟨9, _⟩ => ⟨S32x2048, .i32⟩
  | .hbm, ⟨10, _⟩ => ⟨S32x512, .f32⟩
  | .hbm, ⟨11, _⟩ => ⟨S64000, .f32⟩
  | .hbm, ⟨12, _⟩ => ⟨S32x16, .f32⟩
  | .hbm, ⟨13, _⟩ => ⟨S32x16, .f32⟩
  | .hbm, ⟨14, _⟩ => ⟨S1, .f32⟩
  | .hbm, ⟨15, _⟩ => ⟨S_, .f32⟩
  | .local .tc .vmem, ⟨0, _⟩ => ⟨S8x4x256x256, .f32⟩
  | .local .tc .vmem, ⟨1, _⟩ => ⟨S8x4x256x256, .f32⟩
  | .local .tc .vmem, ⟨2, _⟩ => ⟨S2097152, .f32⟩
  | .local .tc .vmem, ⟨3, _⟩ => ⟨S2097152, .f32⟩
  | .local .tc .vmem, ⟨4, _⟩ => ⟨S32x500, .i32⟩
  | .local .tc .vmem, ⟨5, _⟩ => ⟨S32x500, .i32⟩
  | .local .tc .vmem, ⟨6, _⟩ => ⟨S32x2048, .i32⟩
  | .local .tc .vmem, ⟨7, _⟩ => ⟨S32x2048, .i32⟩
  | .local .tc .vmem, ⟨8, _⟩ => ⟨S32x2048, .i32⟩
  | .local .tc .vmem, ⟨9, _⟩ => ⟨S32x512, .f32⟩
  | .local .tc .vmem, ⟨10, _⟩ => ⟨S32x16, .f32⟩
  | .local .tc .vmem, ⟨11, _⟩ => ⟨S32x16, .f32⟩
  | .local .tc .smem, ⟨0, _⟩ => ⟨S1, .f32⟩
  | .local .scVector .vmem, ⟨0, _⟩ => ⟨S2048, .i32⟩
  | .local .scVector .vmem, ⟨1, _⟩ => ⟨S2048, .i32⟩
  | .local .scVector .vmem, ⟨2, _⟩ => ⟨S2048, .i32⟩
  | .local .scVector .vmem, ⟨3, _⟩ => ⟨S512, .f32⟩
  | .local .scVector .vmem, ⟨4, _⟩ => ⟨S2048, .f32⟩
  | .local .scVector .vmem, ⟨5, _⟩ => ⟨S2048, .f32⟩
  | .local .scVector .vmem, ⟨6, _⟩ => ⟨S2048, .f32⟩
  | .local .scVector .vmem, ⟨7, _⟩ => ⟨S16, .f32⟩
  | .local .scVector .vmem, ⟨8, _⟩ => ⟨S16, .f32⟩
  | _, _ => ⟨S32x4x256x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v0_scv : Ref sig .scVector := ⟨.hbm, 5, rfl⟩
abbrev main_v1_scv : Ref sig .scVector := ⟨.hbm, 6, rfl⟩
abbrev main_v3_scv : Ref sig .scVector := ⟨.hbm, 11, rfl⟩
abbrev main_v2_0_scv : Ref sig .scVector := ⟨.hbm, 7, rfl⟩
abbrev main_v2_1_scv : Ref sig .scVector := ⟨.hbm, 8, rfl⟩
abbrev main_v2_2_scv : Ref sig .scVector := ⟨.hbm, 9, rfl⟩
abbrev main_v2_3_scv : Ref sig .scVector := ⟨.hbm, 10, rfl⟩
abbrev main_v4_0_scv : Ref sig .scVector := ⟨.hbm, 12, rfl⟩
abbrev main_v4_1_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc3_stg0_0 : Ref sig .tc := ⟨.vmem, 10, rfl⟩
abbrev cc3_stg1_0 : Ref sig .tc := ⟨.vmem, 11, rfl⟩
abbrev cc3_stg2_0 : Ref sig .tc := ⟨.smem, 0, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc2_scratch6 : Ref sig .scVector := ⟨.vmem, 6, rfl⟩
abbrev cc2_scratch7 : Ref sig .scVector := ⟨.vmem, 7, rfl⟩
abbrev cc2_scratch8 : Ref sig .scVector := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc3_sem0_0 : DmaSem sig := 19
abbrev cc3_sem1_0 : DmaSem sig := 20
abbrev cc3_sem2_0 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8x4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2097152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

abbrev stage1_0 : Fin 1 → Memref sig .tc .vmem S32x500 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x500 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x2048 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S32x2048 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S32x2048 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S32x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  ![v1.toNat, 0]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  ![v1.toNat, 0]
@[reducible] def k2_t1_loop : Scf.Loop 32 :=
  let c0_i32_21 : BitVec 32 := 0#32
  let c128_i32 : BitVec 32 := 128#32
  let v41 : BitVec 32 := Scalar.addi c0_i32_21 c128_i32
  let c1_i32 : BitVec 32 := 1#32
  ⟨c0_i32_21, v41, c1_i32⟩
def k2_off3 (k2_t1 : Fin k2_t1_loop.trips) : Fin 1 → Nat :=
  let c0_i32_21 : BitVec 32 := 0#32
  let c1_i32 : BitVec 32 := 1#32
  let arg27 : BitVec 32 := Scf.iv c0_i32_21 c1_i32 k2_t1
  let c32_i32 : BitVec 32 := 32#32
  let v49 : BitVec 32 := Scalar.remsi arg27 c32_i32
  let c16_i32 : BitVec 32 := 16#32
  let v50 : BitVec 32 := Scalar.muli v49 c16_i32
  let v51 : Index := Scalar.indexCast v50
  ![v51.toNat]
def k2_off4 (k2_t1 : Fin k2_t1_loop.trips) : Fin 1 → Nat :=
  let c0_i32_21 : BitVec 32 := 0#32
  let c1_i32 : BitVec 32 := 1#32
  let arg27 : BitVec 32 := Scf.iv c0_i32_21 c1_i32 k2_t1
  let c16_i32_24 : BitVec 32 := 16#32
  let v54 : BitVec 32 := Scalar.muli arg27 c16_i32_24
  let v55 : Index := Scalar.indexCast v54
  ![v55.toNat]
def k2_off5 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_24_r0 : BitVec 32 := 0#32
  ![v1.toNat, 0]
abbrev grid3 : Pipeline.Grid := .none

abbrev stage3_0 : Fin 1 → Memref sig .tc .vmem S32x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S32x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .smem S1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x4x256x256 : Shape := ⟨4, ![32, 4, 256, 256]⟩
abbrev S32x500 : Shape := ⟨2, ![32, 500]⟩
abbrev S32x500x4 : Shape := ⟨3, ![32, 500, 4]⟩
abbrev S32x256x256x4 : Shape := ⟨4, ![32, 256, 256, 4]⟩
abbrev S32x65536x4 : Shape := ⟨3, ![32, 65536, 4]⟩
abbrev S32x500x1 : Shape := ⟨3, ![32, 500, 1]⟩
abbrev S_ : Shape := ⟨0, ![]⟩
abbrev S32x500x4x1 : Shape := ⟨4, ![32, 500, 4, 1]⟩
abbrev S1 : Shape := ⟨1, ![1]⟩
abbrev S1x1x1x1 : Shape := ⟨4, ![1, 1, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S32x4x256x256, .f32⟩
  | .hbm, ⟨1, _⟩ => ⟨S32x4x256x256, .f32⟩
  | .hbm, ⟨2, _⟩ => ⟨S32x500, .i32⟩
  | .hbm, ⟨3, _⟩ => ⟨S32x500, .i32⟩
  | .hbm, ⟨4, _⟩ => ⟨S32x500x4, .f32⟩
  | .hbm, ⟨5, _⟩ => ⟨S32x256x256x4, .f32⟩
  | .hbm, ⟨6, _⟩ => ⟨S32x65536x4, .f32⟩
  | .hbm, ⟨7, _⟩ => ⟨S32x500x1, .i32⟩
  | .hbm, ⟨8, _⟩ => ⟨S32x500x4, .i32⟩
  | .hbm, ⟨9, _⟩ => ⟨S_, .i32⟩
  | .hbm, ⟨10, _⟩ => ⟨S32x500x4, .i32⟩
  | .hbm, ⟨11, _⟩ => ⟨S32x500x4, .i1⟩
  | .hbm, ⟨12, _⟩ => ⟨S_, .i32⟩
  | .hbm, ⟨13, _⟩ => ⟨S32x500x4, .i32⟩
  | .hbm, ⟨14, _⟩ => ⟨S32x500x4, .i32⟩
  | .hbm, ⟨15, _⟩ => ⟨S32x500x4, .i32⟩
  | .hbm, ⟨16, _⟩ => ⟨S32x500x4x1, .i32⟩
  | .hbm, ⟨17, _⟩ => ⟨S1, .i32⟩
  | .hbm, ⟨18, _⟩ => ⟨S_, .i32⟩
  | .hbm, ⟨19, _⟩ => ⟨S32x500x4x1, .i32⟩
  | .hbm, ⟨20, _⟩ => ⟨S32x500x4x1, .i1⟩
  | .hbm, ⟨21, _⟩ => ⟨S1x1x1x1, .i32⟩
  | .hbm, ⟨22, _⟩ => ⟨S32x500x4x1, .i32⟩
  | .hbm, ⟨23, _⟩ => ⟨S32x500x4x1, .i1⟩
  | .hbm, ⟨24, _⟩ => ⟨S32x500x4x1, .i1⟩
  | .hbm, ⟨25, _⟩ => ⟨S_, .i1⟩
  | .hbm, ⟨26, _⟩ => ⟨S32x500x4, .i1⟩
  | .hbm, ⟨27, _⟩ => ⟨S32x500x4, .f32⟩
  | .hbm, ⟨28, _⟩ => ⟨S_, .f32⟩
  | .hbm, ⟨29, _⟩ => ⟨S32x500x4, .f32⟩
  | .hbm, ⟨30, _⟩ => ⟨S32x500x4, .f32⟩
  | .hbm, ⟨31, _⟩ => ⟨S32x256x256x4, .f32⟩
  | .hbm, ⟨32, _⟩ => ⟨S32x65536x4, .f32⟩
  | .hbm, ⟨33, _⟩ => ⟨S32x500x1, .i32⟩
  | .hbm, ⟨34, _⟩ => ⟨S32x500x4, .i32⟩
  | .hbm, ⟨35, _⟩ => ⟨S_, .i32⟩
  | .hbm, ⟨36, _⟩ => ⟨S32x500x4, .i32⟩
  | .hbm, ⟨37, _⟩ => ⟨S32x500x4, .i1⟩
  | .hbm, ⟨38, _⟩ => ⟨S_, .i32⟩
  | .hbm, ⟨39, _⟩ => ⟨S32x500x4, .i32⟩
  | .hbm, ⟨40, _⟩ => ⟨S32x500x4, .i32⟩
  | .hbm, ⟨41, _⟩ => ⟨S32x500x4, .i32⟩
  | .hbm, ⟨42, _⟩ => ⟨S32x500x4x1, .i32⟩
  | .hbm, ⟨43, _⟩ => ⟨S1, .i32⟩
  | .hbm, ⟨44, _⟩ => ⟨S_, .i32⟩
  | .hbm, ⟨45, _⟩ => ⟨S32x500x4x1, .i32⟩
  | .hbm, ⟨46, _⟩ => ⟨S32x500x4x1, .i1⟩
  | .hbm, ⟨47, _⟩ => ⟨S1x1x1x1, .i32⟩
  | .hbm, ⟨48, _⟩ => ⟨S32x500x4x1, .i32⟩
  | .hbm, ⟨49, _⟩ => ⟨S32x500x4x1, .i1⟩
  | .hbm, ⟨50, _⟩ => ⟨S32x500x4x1, .i1⟩
  | .hbm, ⟨51, _⟩ => ⟨S_, .i1⟩
  | .hbm, ⟨52, _⟩ => ⟨S32x500x4, .i1⟩
  | .hbm, ⟨53, _⟩ => ⟨S32x500x4, .f32⟩
  | .hbm, ⟨54, _⟩ => ⟨S_, .f32⟩
  | .hbm, ⟨55, _⟩ => ⟨S32x500x4, .f32⟩
  | .hbm, ⟨56, _⟩ => ⟨S32x500x4, .f32⟩
  | .hbm, ⟨57, _⟩ => ⟨S32x500x1, .i32⟩
  | .hbm, ⟨58, _⟩ => ⟨S32x500x4, .i32⟩
  | .hbm, ⟨59, _⟩ => ⟨S32x500x4, .f32⟩
  | .hbm, ⟨60, _⟩ => ⟨S32x500x4, .f32⟩
  | .hbm, ⟨61, _⟩ => ⟨S32x500x4, .f32⟩
  | .hbm, ⟨62, _⟩ => ⟨S32x500x4, .f32⟩
  | .hbm, ⟨63, _⟩ => ⟨S32x500x4, .f32⟩
  | .hbm, ⟨64, _⟩ => ⟨S32x500x4, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S32x4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_cst : Ref sig .tc := ⟨.hbm, 54, rfl⟩
abbrev main_call1_v14 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_cst : Ref sig .tc := ⟨.hbm, 65, rfl⟩
abbrev main_v18 : Ref sig .tc := ⟨.hbm, 66, rfl⟩
abbrev main_cst_0 : Ref sig .tc := ⟨.hbm, 67, rfl⟩
abbrev main_v19 : Ref sig .tc := ⟨.hbm, 68, rfl⟩
abbrev main_cst_1 : Ref sig .tc := ⟨.hbm, 69, rfl⟩
abbrev main_v20 : Ref sig .tc := ⟨.hbm, 70, rfl⟩
abbrev main_v21 : Ref sig .tc := ⟨.hbm, 71, rfl⟩

abbrev nD : Nat := 1
abbrev τ : Topo := Topo.v7x

variable {F : FTy → Type} [FloatOps F]
-- ==== Proof.Model.lean ====
/-
  What the kernel computes, in plain functions over any float values `F`: the row a tile works on, the elements an
  offset list picks out of a table, the sixteen-lane accumulation over 128 trips, and the two rows a tile writes.
-/
module

public import proofs.«01_k».proof.KernelIdeal
public import proofs.«01_k».proof.Proof.Gen.KernelIdeal
public import proofs.«01_k».proof.Proof.Gen.KernelIdeal.Skeleton
public import Idealize.ShloMosaic.Lib.ValueIdx

@[expose] public section

noncomputable section

namespace Cert.Proof

open Cert.KernelIdeal Cert.KernelIdeal.Gen
open Idealize.ShloMosaic Idealize.ShloMosaic.ValueIdx

variable {F : FTy → Type}

/-- Row `b` of a 32-row array. -/
def rowOf {α : Type} {n : ℕ} (x : (⟨2, ![32, n]⟩ : Shape).Idx → α) (b : Fin 32) : (⟨1, ![n]⟩ : Shape).Idx → α :=
  fun j => x (ix2 b (j 0))

/-- Entry `n` of a table of 8388608 elements, the index taken modulo the table's length. -/
def atBig {α : Type} (x : S8388608.Idx → α) (n : ℕ) : α := x (ix1 ⟨n % 8388608, Nat.mod_lt _ (by decide)⟩)

/-- Entry `n` of a table of 64000 elements, the index taken modulo the table's length. -/
def atT {α : Type} (x : S64000.Idx → α) (n : ℕ) : α := x (ix1 ⟨n % 64000, Nat.mod_lt _ (by decide)⟩)

/-- The arrays the SparseCore call reads: the two flat feature maps, the flat target, the three offset lists and the
    mask; and the contents its two results have before it. -/
structure Arr (F : FTy → Type) where
  f1 : S8388608.Idx → F .f32
  f2 : S8388608.Idx → F .f32
  tt : S64000.Idx → F .f32
  i1 : S32x2048.Idx → BitVec 32
  i2 : S32x2048.Idx → BitVec 32
  i3 : S32x2048.Idx → BitVec 32
  ms : S32x512.Idx → F .f32
  o0 : S32x16.Idx → F .f32
  o1 : S32x16.Idx → F .f32

/-- Every offset is an index of the table it is used on. -/
structure Arr.InRange (a : Arr F) : Prop where
  i1 : ∀ x, (a.i1 x).toNat < 8388608
  i2 : ∀ x, (a.i2 x).toNat < 8388608
  i3 : ∀ x, (a.i3 x).toNat < 64000

/-- What the three offset lists pick for row `b`. -/
def Arr.p1 (a : Arr F) (b : Fin 32) : S2048.Idx → F .f32 := fun j => atBig a.f1 (rowOf a.i1 b j).toNat
@[inherit_doc Arr.p1] def Arr.p2 (a : Arr F) (b : Fin 32) : S2048.Idx → F .f32 := fun j => atBig a.f2 (rowOf a.i2 b j).toNat
@[inherit_doc Arr.p1] def Arr.tg (a : Arr F) (b : Fin 32) : S2048.Idx → F .f32 := fun j => atT a.tt (rowOf a.i3 b j).toNat

/-- Sixteen consecutive elements of a row of 2048, chunk `t`. -/
def chunk {α : Type} (x : S2048.Idx → α) (t : ℕ) : S16.Idx → α := fun l => x (ix1 ⟨(16 * t + (l 0).val) % 2048, Nat.mod_lt _ (by decide)⟩)

/-- Sixteen consecutive elements of the mask's row of 512, chunk `t` modulo 32. -/
def mchunk {α : Type} (x : S512.Idx → α) (t : ℕ) : S16.Idx → α :=
  fun l => x (ix1 ⟨(16 * (t % 32) + (l 0).val) % 512, Nat.mod_lt _ (by decide)⟩)

variable [FloatOps F]

/-- One trip: the loss and the mask count, each per lane, one chunk further. -/
def trip (mk : S512.Idx → F .f32) (p1 p2 tg : S2048.Idx → F .f32) (t : ℕ) (s : FVec F S16 .f32 × FVec F S16 .f32) :
    FVec F S16 .f32 × FVec F S16 .f32 :=
  (k2_pay3 s.1 (mchunk mk t) (chunk p1 t) (chunk p2 t) (chunk tg t), k2_pay4 s.2 (mchunk mk t))

/-- The accumulators before trip `n`. -/
def accs (mk : S512.Idx → F .f32) (p1 p2 tg : S2048.Idx → F .f32) : ℕ → FVec F S16 .f32 × FVec F S16 .f32
  | 0 => (k2_pay1, k2_pay1)
  | n + 1 => trip mk p1 p2 tg n (accs mk p1 p2 tg n)

/-- The accumulators of row `b` after every trip. -/
def Arr.fin (a : Arr F) (b : Fin 32) : FVec F S16 .f32 × FVec F S16 .f32 := accs (rowOf a.ms b) (a.p1 b) (a.p2 b) (a.tg b) 128

/-- The SparseCore call's two results: row `b` is what the tile of row `b` accumulated. -/
def Arr.r0 (a : Arr F) : S32x16.Idx → F .f32 := fun x => k2_pay5 (a.fin (x 0)).1 (ix1 (x 1))
@[inherit_doc Arr.r0] def Arr.r1 (a : Arr F) : S32x16.Idx → F .f32 := fun x => k2_pay6 (a.fin (x 0)).2 (ix1 (x 1))

end Cert.Proof

end
-- ==== Proof.Launch.lean ====
/-
  The program as the SparseCore launch theorem sees it: its body table, its ghost algebra, the arrays the call works on,
  and what each handshake of the call carries — the rows of tile `(c, i)` are row `2 i + c` of every 32-row array, and a
  share of each table.
-/
module

public import proofs.«01_k».proof.Defs
public import proofs.«01_k».proof.Proof.Model
public import proofs.«01_k».proof.Proof.Gen.KernelIdeal.Launch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof

open Cert.KernelIdeal Cert.KernelIdeal.Gen
open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL
abbrev EP : Emb (UR sig nD τ) (MT nD τ sig (HIx 1) (Elt F) ℕ UU ℕ) :=
  (Emb.inl : Emb (UR sig nD τ) (UR sig nD τ × Counters)).trans embR

/-! ## The arrays of the call -/

abbrev f1Loc (d : Dev nD) : Loc nD τ sig := (SparseCore.T d).loc main_v0
abbrev f2Loc (d : Dev nD) : Loc nD τ sig := (SparseCore.T d).loc main_v1
abbrev ttLoc (d : Dev nD) : Loc nD τ sig := (SparseCore.T d).loc main_v3
abbrev i1Loc (d : Dev nD) : Loc nD τ sig := (SparseCore.T d).loc main_v2_0
abbrev i2Loc (d : Dev nD) : Loc nD τ sig := (SparseCore.T d).loc main_v2_1
abbrev i3Loc (d : Dev nD) : Loc nD τ sig := (SparseCore.T d).loc main_v2_2
abbrev msLoc (d : Dev nD) : Loc nD τ sig := (SparseCore.T d).loc main_v2_3
abbrev o0Loc (d : Dev nD) : Loc nD τ sig := (SparseCore.T d).loc main_v4_0
abbrev o1Loc (d : Dev nD) : Loc nD τ sig := (SparseCore.T d).loc main_v4_1

/-- The elements of row `b` of a 32-row array. -/
def rowSet (n : ℕ) (b : Fin 32) : Finset (⟨2, ![32, n]⟩ : Shape).Idx := Finset.univ.filter fun x => (x 0).val = b.val

theorem mem_rowSet {n : ℕ} {b : Fin 32} {x : (⟨2, ![32, n]⟩ : Shape).Idx} : x ∈ rowSet n b ↔ (x 0).val = b.val := by
  simp [rowSet]

theorem rowSet_disjoint (n : ℕ) : ∀ i ∈ (Finset.univ : Finset (Fin 32)), ∀ j ∈ (Finset.univ : Finset (Fin 32)), i ≠ j →
    Disjoint (rowSet n i) (rowSet n j) := by
  intro i _ j _ h
  rw [Finset.disjoint_left]
  intro x hx hy
  exact h (Fin.ext ((mem_rowSet.mp hx).symm.trans (mem_rowSet.mp hy)))

theorem rowSet_cover (n : ℕ) : (Finset.univ : Finset (Fin 32)).biUnion (rowSet n) = Finset.univ := by
  ext x
  exact ⟨fun _ => Finset.mem_univ _, fun _ => Finset.mem_biUnion.mpr ⟨x 0, Finset.mem_univ _, mem_rowSet.mpr rfl⟩⟩

/-! ## What the handshakes carry -/

/-- The row tile `i` of SparseCore `c` works on. -/
def wid (c i : ℕ) (hc : c < 2) (hi : i < 16) : Fin 32 := ⟨2 * i + c, by omega⟩

/-- What the tile of row `b` is handed: its row of each list and of the mask, its share of each table, its row of each
    result, at the contents `r0`, `r1`. -/
def tileRes (a : Arr F) (d : Dev nD) (b : Fin 32) (r0 r1 : S32x16.Idx → F .f32) : sProp 𝕄 :=
  iprop((i1Loc d ↦[rowSet 2048 b]{fullShare} a.i1) ∗ (i2Loc d ↦[rowSet 2048 b]{fullShare} a.i2) ∗ (i3Loc d ↦[rowSet 2048 b]{fullShare} a.i3)
    ∗ (msLoc d ↦[rowSet 512 b]{fullShare} a.ms)
    ∗ (f1Loc d ↦{Transfers.shareTokN fullShare b.val} a.f1) ∗ (f2Loc d ↦{Transfers.shareTokN fullShare b.val} a.f2)
    ∗ (ttLoc d ↦{Transfers.shareTokN fullShare b.val} a.tt)
    ∗ (o0Loc d ↦[rowSet 16 b]{fullShare} r0) ∗ (o1Loc d ↦[rowSet 16 b]{fullShare} r1))

instance tileRes_storable (a : Arr F) (d : Dev nD) (b : Fin 32) (r0 r1 : S32x16.Idx → F .f32) :
    BI.Storable (upEmb : UEmb _ 𝕄) (tileRes a d b r0 r1) := by unfold tileRes; infer_instance

/-- The row of the launch's tile `(c, i)`. -/
abbrev rowC (c : Fin ((K (F := F)).nCore 0)) (i : Fin ((K (F := F)).nSub 0)) : Fin 32 := wid c.val i.val c.isLt i.isLt

variable [FloatOps F]

/-- The one call takes, per SparseCore, its tiles' resources, and brings them back with the results' rows computed. -/
def P (a : Dev nD → Arr F) : (K (F := F)).Pay (nD := nD) (Val := Elt F) (Name := ℕ) (U := UU) where
  st := fun q d c => match q with
    | 0 => bigSep Finset.univ fun i : Fin ((K (F := F)).nSub 0) => tileRes (a d) d (rowC c i) (a d).o0 (a d).o1
  dn := fun q d c => match q with
    | 0 => bigSep Finset.univ fun i : Fin ((K (F := F)).nSub 0) => tileRes (a d) d (rowC c i) (a d).r0 (a d).r1
  go := fun q d c i => match q with
    | 0 => tileRes (a d) d (rowC c i) (a d).o0 (a d).o1
  td := fun q d c i => match q with
    | 0 => tileRes (a d) d (rowC c i) (a d).r0 (a d).r1
  x := fun _ _ => iprop(emp)

instance P_storable (a : Dev nD → Arr F) : (P a).IsStorable where
  st q d c := match q with
    | 0 => (inferInstance : BI.Storable (upEmb : UEmb _ 𝕄)
        (bigSep Finset.univ fun i : Fin ((K (F := F)).nSub 0) => tileRes (a d) d (rowC c i) (a d).o0 (a d).o1))
  dn q d c := match q with
    | 0 => (inferInstance : BI.Storable (upEmb : UEmb _ 𝕄)
        (bigSep Finset.univ fun i : Fin ((K (F := F)).nSub 0) => tileRes (a d) d (rowC c i) (a d).r0 (a d).r1))
  go q d c i := match q with
    | 0 => (inferInstance : BI.Storable (upEmb : UEmb _ 𝕄) (tileRes (a d) d (rowC c i) (a d).o0 (a d).o1))
  td q d c i := match q with
    | 0 => (inferInstance : BI.Storable (upEmb : UEmb _ 𝕄) (tileRes (a d) d (rowC c i) (a d).r0 (a d).r1))

/-- A SparseCore's resources are its tiles' together. -/
theorem vecSplit (a : Dev nD → Arr F) : (K (F := F)).VecSplit' (P a) 0 := by
  intro d c
  show (bigSep Finset.univ fun i : Fin ((K (F := F)).nSub 0) => tileRes (a d) d (rowC c i) (a d).o0 (a d).o1) ⊢ |={Set.univ}=> iprop(
      (bigSep Finset.univ fun i : Fin ((K (F := F)).nSub 0) => tileRes (a d) d (rowC c i) (a d).o0 (a d).o1)
      ∗ ((bigSep Finset.univ fun i : Fin ((K (F := F)).nSub 0) => tileRes (a d) d (rowC c i) (a d).r0 (a d).r1)
          -∗ bigSep Finset.univ fun i : Fin ((K (F := F)).nSub 0) => tileRes (a d) d (rowC c i) (a d).r0 (a d).r1))
  iintro H; imodintro
  isplitl [H]; · iexact H
  iintro H; iexact H

end Cert.Proof

end
-- ==== Proof.Tile.lean ====
/-
  The SparseCore kernel on one tile: from the tile's rows of the offset lists and of the mask and its shares of the three
  tables it runs to its end and leaves its row of each result at the value the model states.
-/
module

public import proofs.«01_k».proof.Proof.Launch

@[expose] public section

noncomputable section

namespace Cert.Proof

open Cert.KernelIdeal Cert.KernelIdeal.Gen
open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Views of one row -/

/-- Index `j` of a row's view is index `(b, j)` of the array. -/
theorem row_emb {n : ℕ} (b : Fin 32) {off : Fin 2 → ℕ} (hoff : off = ![b.val, 0])
    (inb : ∀ a, off a + (⟨2, ![1, n]⟩ : Shape).size a ≤ (⟨2, ![32, n]⟩ : Shape).size a)
    (h : (⟨1, ![n]⟩ : Shape).numel = (⟨2, ![1, n]⟩ : Shape).numel) (j : (⟨1, ![n]⟩ : Shape).Idx) :
    (Rect.unit (s := ⟨2, ![32, n]⟩) off (⟨2, ![1, n]⟩ : Shape).size inb).emb (Shape.reshapeEquiv h j) = ix2 b (j 0) := by
  subst hoff
  have e : Shape.reshapeEquiv h j = (ix2 (⟨0, Nat.one_pos⟩ : Fin 1) (j 0) : (⟨2, ![1, n]⟩ : Shape).Idx) :=
    Shape.reshapeEquiv_eq_of_rowMajor h (by
      rw [Shape.rowMajor_val_two, Shape.rowMajor_val_one]
      show 0 * n + (j 0).val = (j 0).val
      omega)
  rw [e]
  funext a
  apply Fin.ext
  match a with
  | 0 => show b.val + 1 * 0 = b.val; omega
  | 1 => show 0 + 1 * (j 0).val = (j 0).val; omega

section Tile

variable (d : Dev nD) (L : grid2.Coords)

abbrev cV (L : grid2.Coords) : Fin τ.nSC := (L 0).castLE hcore2
abbrev jV (L : grid2.Coords) : Fin τ.nSub := (L 1).castLE hsub2
abbrev thr (d : Dev nD) (L : grid2.Coords) : Thread nD τ := V d (cV L) (jV L)
/-- The row of the tile at grid coordinates `L`. -/
abbrev bL (L : grid2.Coords) : Fin 32 := wid (L 0).val (L 1).val (L 0).isLt (L 1).isLt

abbrev f1V : Memref sig .scVector .hbm S8388608 .f32 := Memref.whole main_v0_scv
abbrev f2V : Memref sig .scVector .hbm S8388608 .f32 := Memref.whole main_v1_scv
abbrev ttV : Memref sig .scVector .hbm S64000 .f32 := Memref.whole main_v3_scv
abbrev i1V : Memref sig .scVector .hbm S32x2048 .i32 := Memref.whole main_v2_0_scv
abbrev i2V : Memref sig .scVector .hbm S32x2048 .i32 := Memref.whole main_v2_1_scv
abbrev i3V : Memref sig .scVector .hbm S32x2048 .i32 := Memref.whole main_v2_2_scv
abbrev msV : Memref sig .scVector .hbm S32x512 .f32 := Memref.whole main_v2_3_scv
abbrev o0V : Memref sig .scVector .hbm S32x16 .f32 := Memref.whole main_v4_0_scv
abbrev o1V : Memref sig .scVector .hbm S32x16 .f32 := Memref.whole main_v4_1_scv
abbrev l1S : Memref sig .scVector .vmem S2048 .i32 := Memref.whole cc2_scratch0
abbrev l2S : Memref sig .scVector .vmem S2048 .i32 := Memref.whole cc2_scratch1
abbrev l3S : Memref sig .scVector .vmem S2048 .i32 := Memref.whole cc2_scratch2
abbrev mS : Memref sig .scVector .vmem S512 .f32 := Memref.whole cc2_scratch3
abbrev tS : Memref sig .scVector .vmem S2048 .f32 := Memref.whole cc2_scratch4
abbrev p1S : Memref sig .scVector .vmem S2048 .f32 := Memref.whole cc2_scratch5
abbrev p2S : Memref sig .scVector .vmem S2048 .f32 := Memref.whole cc2_scratch6
abbrev a0S : Memref sig .scVector .vmem S16 .f32 := Memref.whole cc2_scratch7
abbrev a1S : Memref sig .scVector .vmem S16 .f32 := Memref.whole cc2_scratch8

/-- The tile's rows as it addresses them. -/
abbrev i1K (L : grid2.Coords) : Memref sig .scVector .hbm S2048 .i32 :=
  ((i1V).slice (Rect.unit (s := S32x2048) (k2_off1 L) S1x2048.size (k2_off1_inb L)) (fun _ => rfl)).squeeze S2048 squeezes_S1x2048_S2048
abbrev i2K (L : grid2.Coords) : Memref sig .scVector .hbm S2048 .i32 :=
  ((i2V).slice (Rect.unit (s := S32x2048) (k2_off1 L) S1x2048.size (k2_off1_inb L)) (fun _ => rfl)).squeeze S2048 squeezes_S1x2048_S2048
abbrev i3K (L : grid2.Coords) : Memref sig .scVector .hbm S2048 .i32 :=
  ((i3V).slice (Rect.unit (s := S32x2048) (k2_off1 L) S1x2048.size (k2_off1_inb L)) (fun _ => rfl)).squeeze S2048 squeezes_S1x2048_S2048
abbrev msK (L : grid2.Coords) : Memref sig .scVector .hbm S512 .f32 :=
  ((msV).slice (Rect.unit (s := S32x512) (k2_off2 L) S1x512.size (k2_off2_inb L)) (fun _ => rfl)).squeeze S512 squeezes_S1x512_S512
abbrev o0K (L : grid2.Coords) : Memref sig .scVector .hbm S16 .f32 :=
  ((o0V).slice (Rect.unit (s := S32x16) (k2_off5 L) S1x16.size (k2_off5_inb L)) (fun _ => rfl)).squeeze S16 squeezes_S1x16_S16
abbrev o1K (L : grid2.Coords) : Memref sig .scVector .hbm S16 .f32 :=
  ((o1V).slice (Rect.unit (s := S32x16) (k2_off5 L) S1x16.size (k2_off5_inb L)) (fun _ => rfl)).squeeze S16 squeezes_S1x16_S16
/-- The tables as a gather addresses them. -/
abbrev f1K : Memref sig .scVector .hbm S8388608 .f32 := (f1V).slice (Rect.unit (s := S8388608) ![0] S8388608.size inb_S8388608_S8388608_0) (fun _ => rfl)
abbrev f2K : Memref sig .scVector .hbm S8388608 .f32 := (f2V).slice (Rect.unit (s := S8388608) ![0] S8388608.size inb_S8388608_S8388608_0) (fun _ => rfl)
abbrev ttK : Memref sig .scVector .hbm S64000 .f32 := (ttV).slice (Rect.unit (s := S64000) ![0] S64000.size inb_S64000_S64000_0) (fun _ => rfl)

theorem emb_i1K (j : S2048.Idx) : (i1K L).view.emb j = ix2 (bL L) (j 0) := row_emb (bL L) (k2_off1_eq L) (k2_off1_inb L) _ j
theorem emb_i2K (j : S2048.Idx) : (i2K L).view.emb j = ix2 (bL L) (j 0) := row_emb (bL L) (k2_off1_eq L) (k2_off1_inb L) _ j
theorem emb_i3K (j : S2048.Idx) : (i3K L).view.emb j = ix2 (bL L) (j 0) := row_emb (bL L) (k2_off1_eq L) (k2_off1_inb L) _ j
theorem emb_msK (j : S512.Idx) : (msK L).view.emb j = ix2 (bL L) (j 0) := row_emb (bL L) (k2_off2_eq L) (k2_off2_inb L) _ j
theorem emb_o0K (j : S16.Idx) : (o0K L).view.emb j = ix2 (bL L) (j 0) := row_emb (bL L) (k2_off5_eq L) (k2_off5_inb L) _ j
theorem emb_o1K (j : S16.Idx) : (o1K L).view.emb j = ix2 (bL L) (j 0) := row_emb (bL L) (k2_off5_eq L) (k2_off5_inb L) _ j

/-- A view whose indices are row `b`'s has row `b`'s elements. -/
theorem row_set {n : ℕ} (b : Fin 32) (e : (⟨1, ![n]⟩ : Shape).Idx ↪ (⟨2, ![32, n]⟩ : Shape).Idx) (h : ∀ j, e j = ix2 b (j 0)) :
    Finset.univ.map e = rowSet n b := by
  ext x
  rw [Finset.mem_map, mem_rowSet]
  constructor
  · rintro ⟨j, -, rfl⟩; rw [h]; rfl
  · intro hx
    refine ⟨ix1 (x 1), Finset.mem_univ _, ?_⟩
    rw [h]; funext i; match i with | 0 => exact Fin.ext hx.symm | 1 => rfl

theorem set_i1K : (i1K L).view.set = rowSet 2048 (bL L) := row_set _ (i1K L).view.emb (emb_i1K L)
theorem set_i2K : (i2K L).view.set = rowSet 2048 (bL L) := row_set _ (i2K L).view.emb (emb_i2K L)
theorem set_i3K : (i3K L).view.set = rowSet 2048 (bL L) := row_set _ (i3K L).view.emb (emb_i3K L)
theorem set_msK : (msK L).view.set = rowSet 512 (bL L) := row_set _ (msK L).view.emb (emb_msK L)
theorem set_o0K : (o0K L).view.set = rowSet 16 (bL L) := row_set _ (o0K L).view.emb (emb_o0K L)
theorem set_o1K : (o1K L).view.set = rowSet 16 (bL L) := row_set _ (o1K L).view.emb (emb_o1K L)

/-! ## The tile's scratch buffers and semaphores -/

/-- The nine DMA semaphores the kernel waits on. -/
def sems : Fin 9 → DmaSem sig
  | 0 => cc2_scratch9.sem | 1 => cc2_scratch10.sem | 2 => cc2_scratch11.sem | 3 => cc2_scratch12.sem | 4 => cc2_scratch13.sem
  | 5 => cc2_scratch14.sem | 6 => cc2_scratch15.sem | 7 => cc2_scoped0.sem | 8 => cc2_scoped1.sem

/-- The nine scratch buffers. -/
def scr : Fin 9 → Ref sig .scVector
  | 0 => cc2_scratch0 | 1 => cc2_scratch1 | 2 => cc2_scratch2 | 3 => cc2_scratch3 | 4 => cc2_scratch4
  | 5 => cc2_scratch5 | 6 => cc2_scratch6 | 7 => cc2_scratch7 | 8 => cc2_scratch8

theorem sems_inj : Function.Injective sems := by decide
theorem scr_inj : Function.Injective scr := by decide
theorem sems_scoped : ∀ k, (SemLoc.dma (sems k) : SemLoc sig).isScoped .scVector = true := by decide

/-- The separating conjunction over nine. -/
theorem bigSep_nine {M : Type} [URA M] (Φ : Fin 9 → sProp M) : bigSep Finset.univ Φ
    = iprop(Φ (0 : Fin 9) ∗ Φ (1 : Fin 9) ∗ Φ (2 : Fin 9) ∗ Φ (3 : Fin 9) ∗ Φ (4 : Fin 9) ∗ Φ (5 : Fin 9) ∗ Φ (6 : Fin 9) ∗ Φ (7 : Fin 9) ∗ Φ (8 : Fin 9)) :=
  bigSep_univ_eq_bigSepL [(0 : Fin 9), (1 : Fin 9), (2 : Fin 9), (3 : Fin 9), (4 : Fin 9), (5 : Fin 9), (6 : Fin 9), (7 : Fin 9), (8 : Fin 9)] (by decide) (by decide) Φ

/-- Nine members taken out of a separating conjunction. -/
theorem bigSep_take_nine {M I : Type} [URA M] [DecidableEq I] (s : Finset I) (e : Fin 9 ↪ I) (h : ∀ k, e k ∈ s) (Φ : I → sProp M) :
    bigSep s Φ = iprop((bigSep Finset.univ fun k => Φ (e k)) ∗ bigSep (s \ Finset.univ.map e) Φ) := by
  have hs : Finset.univ.map e ⊆ s := fun x hx => by
    obtain ⟨k, -, rfl⟩ := Finset.mem_map.mp hx; exact h k
  rw [SparseCore.bigSep_sdiff_split' hs, Idealize.SL.BI.bigSep_map]

/-- The semaphores' cells on the tile. -/
def semE : Fin 9 ↪ GSem nD τ sig := ⟨fun k => (thr d L, .dma (sems k)), fun a b h => sems_inj (by simpa using h)⟩
/-- The scratch buffers on the tile. -/
def scrE : Fin 9 ↪ DevRef τ sig := ⟨fun k => (Proc.scVector (cV L) (jV L)).devRef (scr k), fun a b h => scr_inj (Proc.devRef_injective _ h)⟩

theorem ownSems0_tile : (ownSems0 (thr d L) : sProp 𝕄)
    = iprop((bigSep Finset.univ fun k => semVal (semE d L k) 0) ∗ bigSep (ownCells (thr d L) \ Finset.univ.map (semE d L)) fun g => semVal g 0) := by
  unfold SparseCore.Cfg.ownSems0
  exact bigSep_take_nine _ (semE d L) (fun k => mem_ownCells.mpr ⟨rfl, sems_scoped k⟩) _

theorem ownBufs_tile : (ownBufs (thr d L) : sProp 𝕄)
    = iprop((bigSep Finset.univ fun k => iprop(∃ f, ((d, scrE L k) : Loc nD τ sig) ↦{fullShare} f))
        ∗ bigSep (ownRefs (τ := τ) (.scVector (cV L) (jV L)) \ Finset.univ.map (scrE L)) fun b => iprop(∃ f, ((d, b) : Loc nD τ sig) ↦{fullShare} f)) := by
  unfold SparseCore.Cfg.ownBufs
  exact bigSep_take_nine _ (scrE L) (fun k => SparseCore.Cfg.mem_ownRefs_of_owner (by revert k; intro k; match k with
    | 0 => rfl | 1 => rfl | 2 => rfl | 3 => rfl | 4 => rfl | 5 => rfl | 6 => rfl | 7 => rfl | 8 => rfl)) _

/-! ## The tile's rows and scratch as its views -/

theorem semNine : (bigSep Finset.univ fun k => semVal (semE d L k) 0 : sProp 𝕄)
    = iprop(semVal (thr d L, .dma cc2_scratch9.sem) 0 ∗ semVal (thr d L, .dma cc2_scratch10.sem) 0 ∗ semVal (thr d L, .dma cc2_scratch11.sem) 0
      ∗ semVal (thr d L, .dma cc2_scratch12.sem) 0 ∗ semVal (thr d L, .dma cc2_scratch13.sem) 0 ∗ semVal (thr d L, .dma cc2_scratch14.sem) 0
      ∗ semVal (thr d L, .dma cc2_scratch15.sem) 0 ∗ semVal (thr d L, .dma cc2_scoped0.sem) 0 ∗ semVal (thr d L, .dma cc2_scoped1.sem) 0) :=
  bigSep_nine _

theorem scrNine : (bigSep Finset.univ fun k => iprop(∃ f, ((d, scrE L k) : Loc nD τ sig) ↦{fullShare} f) : sProp 𝕄)
    = iprop((∃ f, l1S.view.loc (thr d L) ↦{fullShare} f) ∗ (∃ f, l2S.view.loc (thr d L) ↦{fullShare} f) ∗ (∃ f, l3S.view.loc (thr d L) ↦{fullShare} f)
      ∗ (∃ f, mS.view.loc (thr d L) ↦{fullShare} f) ∗ (∃ f, tS.view.loc (thr d L) ↦{fullShare} f) ∗ (∃ f, p1S.view.loc (thr d L) ↦{fullShare} f)
      ∗ (∃ f, p2S.view.loc (thr d L) ↦{fullShare} f) ∗ (∃ f, a0S.view.loc (thr d L) ↦{fullShare} f) ∗ (∃ f, a1S.view.loc (thr d L) ↦{fullShare} f)) :=
  bigSep_nine _

theorem tileRes_views (a : Arr F) (r0 r1 : S32x16.Idx → F .f32) : (tileRes a d (bL L) r0 r1 : sProp 𝕄)
    = iprop(((i1K L).view.loc (thr d L) ↦[(i1K L).view.set]{fullShare} a.i1) ∗ ((i2K L).view.loc (thr d L) ↦[(i2K L).view.set]{fullShare} a.i2)
      ∗ ((i3K L).view.loc (thr d L) ↦[(i3K L).view.set]{fullShare} a.i3) ∗ ((msK L).view.loc (thr d L) ↦[(msK L).view.set]{fullShare} a.ms)
      ∗ (f1V.view.loc (thr d L) ↦{Transfers.shareTokN fullShare (bL L).val} a.f1) ∗ (f2V.view.loc (thr d L) ↦{Transfers.shareTokN fullShare (bL L).val} a.f2)
      ∗ (ttV.view.loc (thr d L) ↦{Transfers.shareTokN fullShare (bL L).val} a.tt)
      ∗ ((o0K L).view.loc (thr d L) ↦[(o0K L).view.set]{fullShare} r0) ∗ ((o1K L).view.loc (thr d L) ↦[(o1K L).view.set]{fullShare} r1)) := by
  rw [set_i1K, set_i2K, set_i3K, set_msK, set_o0K, set_o1K]
  rfl

/-! ## What the transfers land -/

theorem read_i1K (a : Arr F) : (i1K L).view.read (Elt F) a.i1 = rowOf a.i1 (bL L) := by
  funext j; rw [View.read_apply, emb_i1K]; rfl
theorem read_i2K (a : Arr F) : (i2K L).view.read (Elt F) a.i2 = rowOf a.i2 (bL L) := by
  funext j; rw [View.read_apply, emb_i2K]; rfl
theorem read_i3K (a : Arr F) : (i3K L).view.read (Elt F) a.i3 = rowOf a.i3 (bL L) := by
  funext j; rw [View.read_apply, emb_i3K]; rfl
theorem read_msK (a : Arr F) : (msK L).view.read (Elt F) a.ms = rowOf a.ms (bL L) := by
  funext j; rw [View.read_apply, emb_msK]; rfl

end Tile

/-! ## The gathers -/

/-- One row of a flat shape is one element. -/
theorem rowShape_one (n : ℕ) (k : Fin 1) : Shape.rowShape (s := ⟨1, ![n]⟩) k = ⟨1, ![1]⟩ := by
  obtain rfl : k = 0 := Subsingleton.elim _ _
  unfold Shape.rowShape
  congr 1
  funext b
  obtain rfl : b = 0 := Subsingleton.elim _ _
  rfl

/-- The credit of a gather's 2048 one-element rows. -/
theorem credit_rows (m : Memref sig .scVector .vmem S2048 .f32) (k : Fin S2048.rank) (N : ℕ)
    (h : 2048 * sig.dmaCredit .scVector (Kind.scVector.table .vmem) m.view.buf ⟨1, ![1]⟩ .f32 = N) :
    ∑ j, (m.slice (S2048.rowRect k j) (S2048.stride_rowRect k j)).view.dmaCredit = N := by
  obtain rfl : k = 0 := Subsingleton.elim (α := Fin 1) _ _
  have e : ∀ j, (m.slice (S2048.rowRect 0 j) (S2048.stride_rowRect 0 j)).view.dmaCredit
      = sig.dmaCredit .scVector (Kind.scVector.table .vmem) m.view.buf ⟨1, ![1]⟩ .f32 := fun j =>
    View.dmaCredit_closed _ _ (rowShape_one 2048 0) _ rfl _ rfl
  rw [Finset.sum_congr rfl (fun j _ => e j), Finset.sum_const, Finset.card_univ, Fintype.card_fin]
  exact h

/-- The rows' credits add up to what the wait takes. -/
theorem credit_p1 : 2048 * sig.dmaCredit .scVector (Kind.scVector.table .vmem) p1S.view.buf ⟨1, ![1]⟩ .f32 = p1S.view.dmaCredit := by decide
@[inherit_doc credit_p1] theorem credit_p2 : 2048 * sig.dmaCredit .scVector (Kind.scVector.table .vmem) p2S.view.buf ⟨1, ![1]⟩ .f32 = p2S.view.dmaCredit := by decide
@[inherit_doc credit_p1] theorem credit_t : 2048 * sig.dmaCredit .scVector (Kind.scVector.table .vmem) tS.view.buf ⟨1, ![1]⟩ .f32 = tS.view.dmaCredit := by decide

/-- A gather from a flat table picks, at each index, the entry its list names. -/
theorem gather_flat [FloatOps F] {z : ℕ} (hg : (⟨1, ![z]⟩ : Shape).Gathers 0 S2048) (g : (⟨1, ![z]⟩ : Shape).Idx → Elt F .f32)
    (l : S2048.Idx → BitVec 32) (hn : S2048.numel = S2048.size hg.axis')
    (hin : ∀ x, (l x).toNat < (⟨1, ![z]⟩ : Shape).size hg.axis) (j : S2048.Idx) :
    SparseCore.gatherPayload (F := F) (e := .f32) hg g (SparseCore.rows (F := F) l hn hin) j = g (ix1 ⟨(l j).toNat, hin j⟩) := by
  unfold SparseCore.gatherPayload
  congr 1
  funext b
  obtain rfl : b = 0 := Subsingleton.elim (α := Fin 1) _ _
  refine Fin.ext ?_
  refine (congrArg Fin.val (Shape.Gathers.idx_axis hg _ j)).trans ?_
  show (l _).toNat = (l j).toNat
  congr 2
  rw [Equiv.symm_apply_eq]
  refine Fin.ext ?_
  rw [Shape.rowMajor_val_one]
  rfl

theorem emb_f1K (n : Fin 8388608) : (f1K).view.emb (ix1 n) = ix1 n := by
  funext b
  obtain rfl : b = 0 := Subsingleton.elim (α := Fin 1) _ _
  exact Fin.ext (show 0 + 1 * n.val = n.val by omega)
theorem emb_f2K (n : Fin 8388608) : (f2K).view.emb (ix1 n) = ix1 n := by
  funext b
  obtain rfl : b = 0 := Subsingleton.elim (α := Fin 1) _ _
  exact Fin.ext (show 0 + 1 * n.val = n.val by omega)
theorem emb_ttK (n : Fin 64000) : (ttK).view.emb (ix1 n) = ix1 n := by
  funext b
  obtain rfl : b = 0 := Subsingleton.elim (α := Fin 1) _ _
  exact Fin.ext (show 0 + 1 * n.val = n.val by omega)

theorem atBig_lt {α : Type} (x : S8388608.Idx → α) {n : ℕ} (h : n < 8388608) : x (ix1 ⟨n, h⟩) = atBig x n :=
  congrArg x (congrArg ix1 (Fin.ext (Nat.mod_eq_of_lt h).symm))
theorem atT_lt {α : Type} (x : S64000.Idx → α) {n : ℕ} (h : n < 64000) : x (ix1 ⟨n, h⟩) = atT x n :=
  congrArg x (congrArg ix1 (Fin.ext (Nat.mod_eq_of_lt h).symm))

/-! A table's share, split for a gather, back whole. -/

theorem join_f1 (d : Dev nD) (L : grid2.Coords) (q : PosShare TreeShare) (f : Buf (Elt F) (f1V.view.loc (thr d L))) :
    iprop((f1K.view.loc (thr d L) ↦[f1K.view.set]{q} f) ∗ (f1V.view.loc (thr d L) ↦[Finset.univ \ f1K.view.set]{q} f)) ⊢ (f1V.view.loc (thr d L) ↦{q} f : sProp 𝕄) :=
  (pointsTo_split_subset (Finset.subset_univ _)).2
theorem join_f2 (d : Dev nD) (L : grid2.Coords) (q : PosShare TreeShare) (f : Buf (Elt F) (f2V.view.loc (thr d L))) :
    iprop((f2K.view.loc (thr d L) ↦[f2K.view.set]{q} f) ∗ (f2V.view.loc (thr d L) ↦[Finset.univ \ f2K.view.set]{q} f)) ⊢ (f2V.view.loc (thr d L) ↦{q} f : sProp 𝕄) :=
  (pointsTo_split_subset (Finset.subset_univ _)).2
theorem join_tt (d : Dev nD) (L : grid2.Coords) (q : PosShare TreeShare) (f : Buf (Elt F) (ttV.view.loc (thr d L))) :
    iprop((ttK.view.loc (thr d L) ↦[ttK.view.set]{q} f) ∗ (ttV.view.loc (thr d L) ↦[Finset.univ \ ttK.view.set]{q} f)) ⊢ (ttV.view.loc (thr d L) ↦{q} f : sProp 𝕄) :=
  (pointsTo_split_subset (Finset.subset_univ _)).2

variable [FloatOps F]

/-- The first table's gather lands the entries row `b`'s first list names. -/
theorem landed_p1 (a : Arr F) (b : Fin 32) (c : S2048.Idx → F .f32) (hn : S2048.numel = S2048.size (gathers_S8388608_S2048).axis')
    (h : ∀ x, (rowOf a.i1 b x).toNat < S8388608.size (gathers_S8388608_S2048).axis) :
    p1S.view.write (Elt F) c (SparseCore.gatherPayload (F := F) (e := .f32) gathers_S8388608_S2048 (f1K.view.read (Elt F) a.f1)
      (SparseCore.rows (F := F) (rowOf a.i1 b) hn h)) Finset.univ = a.p1 b := by
  refine (View.write_whole_univ _ _ _).trans ?_
  funext j
  refine (gather_flat _ _ _ _ _ j).trans ?_
  rw [View.read_apply, emb_f1K]
  exact atBig_lt a.f1 (h j)

/-- The second table's gather lands the entries row `b`'s second list names. -/
theorem landed_p2 (a : Arr F) (b : Fin 32) (c : S2048.Idx → F .f32) (hn : S2048.numel = S2048.size (gathers_S8388608_S2048).axis')
    (h : ∀ x, (rowOf a.i2 b x).toNat < S8388608.size (gathers_S8388608_S2048).axis) :
    p2S.view.write (Elt F) c (SparseCore.gatherPayload (F := F) (e := .f32) gathers_S8388608_S2048 (f2K.view.read (Elt F) a.f2)
      (SparseCore.rows (F := F) (rowOf a.i2 b) hn h)) Finset.univ = a.p2 b := by
  refine (View.write_whole_univ _ _ _).trans ?_
  funext j
  refine (gather_flat _ _ _ _ _ j).trans ?_
  rw [View.read_apply, emb_f2K]
  exact atBig_lt a.f2 (h j)

/-- The target's gather lands the entries row `b`'s third list names. -/
theorem landed_t (a : Arr F) (b : Fin 32) (c : S2048.Idx → F .f32) (hn : S2048.numel = S2048.size (gathers_S64000_S2048).axis')
    (h : ∀ x, (rowOf a.i3 b x).toNat < S64000.size (gathers_S64000_S2048).axis) :
    tS.view.write (Elt F) c (SparseCore.gatherPayload (F := F) (e := .f32) gathers_S64000_S2048 (ttK.view.read (Elt F) a.tt)
      (SparseCore.rows (F := F) (rowOf a.i3 b) hn h)) Finset.univ = a.tg b := by
  refine (View.write_whole_univ _ _ _).trans ?_
  funext j
  refine (gather_flat _ _ _ _ _ j).trans ?_
  rw [View.read_apply, emb_ttK]
  exact atT_lt a.tt (h j)

/-! ## The loop's loads -/

/-- A load of sixteen elements of a row of 2048 at trip `t` is chunk `t`. -/
theorem load_chunk (x : S2048.Idx → F .f32) (t : Fin k2_t1_loop.trips) :
    (fun l : S16.Idx => x ((Rect.unit (s := S2048) (k2_off4 t) S16.size (k2_off4_inb t)).emb l)) = chunk x t.val := by
  have ht : t.val < 128 := t.isLt
  funext l
  have hl : (l 0).val < 16 := (l 0).isLt
  unfold chunk
  congr 1
  funext b
  obtain rfl : b = 0 := Subsingleton.elim (α := Fin 1) _ _
  refine Fin.ext ?_
  show k2_off4 t 0 + 1 * (l 0).val = (16 * t.val + (l 0).val) % 2048
  rw [k2_off4_eq, Nat.mod_eq_of_lt (by omega)]
  show 16 * t.val + 1 * (l 0).val = _
  omega

/-- A load of sixteen elements of the mask's row at trip `t` is its chunk `t`. -/
theorem load_mchunk (x : S512.Idx → F .f32) (t : Fin k2_t1_loop.trips) :
    (fun l : S16.Idx => x ((Rect.unit (s := S512) (k2_off3 t) S16.size (k2_off3_inb t)).emb l)) = mchunk x t.val := by
  funext l
  have hl : (l 0).val < 16 := (l 0).isLt
  unfold mchunk
  congr 1
  funext b
  obtain rfl : b = 0 := Subsingleton.elim (α := Fin 1) _ _
  refine Fin.ext ?_
  show k2_off3 t 0 + 1 * (l 0).val = (16 * (t.val % 32) + (l 0).val) % 512
  rw [k2_off3_eq, Nat.mod_eq_of_lt (show 16 * (t.val % 32) + (l 0).val < 512 by omega)]
  show 16 * (t.val % 32) + 1 * (l 0).val = _
  omega

/-! ## What the tile leaves in the results -/

theorem trips_eq : Scf.trips k2_t1_loop.lb k2_t1_loop.ub k2_t1_loop.st = 128 := by decide +kernel

theorem read_o0K (L : grid2.Coords) (a : Arr F) : (o0K L).view.read (Elt F) a.r0 = k2_pay5 (a.fin (bL L)).1 := by
  funext j
  rw [View.read_apply, emb_o0K]
  exact congrArg (k2_pay5 (a.fin (bL L)).1) (eq_ix1 j).symm
theorem read_o1K (L : grid2.Coords) (a : Arr F) : (o1K L).view.read (Elt F) a.r1 = k2_pay6 (a.fin (bL L)).2 := by
  funext j
  rw [View.read_apply, emb_o1K]
  exact congrArg (k2_pay6 (a.fin (bL L)).2) (eq_ix1 j).symm

/-- Contents a tile's result row reads alike are alike on that row. -/
theorem o0K_ext (L : grid2.Coords) (f g : S32x16.Idx → F .f32) (h : (o0K L).view.read (Elt F) f = (o0K L).view.read (Elt F) g) :
    ∀ i ∈ (o0K L).view.set, f i = g i := by
  intro i hi
  obtain ⟨x, -, rfl⟩ := Finset.mem_map.mp hi
  exact congrFun h x
@[inherit_doc o0K_ext] theorem o1K_ext (L : grid2.Coords) (f g : S32x16.Idx → F .f32)
    (h : (o1K L).view.read (Elt F) f = (o1K L).view.read (Elt F) g) : ∀ i ∈ (o1K L).view.set, f i = g i := by
  intro i hi
  obtain ⟨x, -, rfl⟩ := Finset.mem_map.mp hi
  exact congrFun h x

end Cert.Proof

end
-- ==== Proof.TileRun.lean ====
/-
  The run of the SparseCore kernel on one tile.
-/
module

public import proofs.«01_k».proof.Proof.Tile
public import Idealize.ShloMosaic.Lib.VecWindow

@[expose] public section

noncomputable section

namespace Cert.Proof

open Cert.KernelIdeal Cert.KernelIdeal.Gen
open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable [FloatOps F] (d : Dev nD) (L : grid2.Coords) (a : Arr F)

/-- Before trip `n` the loop holds the mask's row and the three gathered rows, and carries the accumulators of `n` trips. -/
def inv (n : ℕ) (s : FVec F S16 .f32 × FVec F S16 .f32) : sProp 𝕄 :=
  iprop((mS.view.loc (thr d L) ↦{fullShare} rowOf a.ms (bL L)) ∗ (tS.view.loc (thr d L) ↦{fullShare} a.tg (bL L))
    ∗ (p1S.view.loc (thr d L) ↦{fullShare} a.p1 (bL L)) ∗ (p2S.view.loc (thr d L) ↦{fullShare} a.p2 (bL L))
    ∗ ⌜s = accs (rowOf a.ms (bL L)) (a.p1 (bL L)) (a.p2 (bL L)) (a.tg (bL L)) n⌝)

set_option maxHeartbeats 2000000 in
set_option maxRecDepth 16384 in
theorem tile_body (hF : (K (F := F)).Facts) (hin : a.InRange) (O : CellTallies nD τ sig (HIx 1)) (W : Waits sig (HIx 1)) (hO : ∀ g, O g none = 0) :
    iprop(levAts (K (F := F)).L (K (F := F)).lev ∗ emp ∗ tileRes a d (bL L) a.o0 a.o1
        ∗ scopedBufs (thr d L) ∗ scopedSems0 (thr d L) ∗ owes (thr d L) O W)
      ⊢ wp frame (wpE (defs₀ (F := F)) 𝒱₀ (thr d L) none) Set.univ
          (cc2_k L f1V (Memref.isWhole_whole _) f2V (Memref.isWhole_whole _) ttV (Memref.isWhole_whole _)
            i1V (Memref.isWhole_whole _) i2V (Memref.isWhole_whole _) i3V (Memref.isWhole_whole _) msV (Memref.isWhole_whole _)
            o0V (Memref.isWhole_whole _) o1V (Memref.isWhole_whole _)
            l1S (Memref.isWhole_whole _) l2S (Memref.isWhole_whole _) l3S (Memref.isWhole_whole _) mS (Memref.isWhole_whole _)
            tS (Memref.isWhole_whole _) p1S (Memref.isWhole_whole _) p2S (Memref.isWhole_whole _) a0S (Memref.isWhole_whole _) a1S (Memref.isWhole_whole _)
            cc2_scratch9 cc2_scratch10 cc2_scratch11 cc2_scratch12 cc2_scratch13 cc2_scratch14 cc2_scratch15 cc2_scoped0 cc2_scoped1)
          fun _ => iprop(tileRes a d (bL L) a.r0 a.r1
            ∗ scopedBufs (thr d L) ∗ scopedSems0 (thr d L)
            ∗ ∃ W', ⌜∀ p ∈ W', p ∈ W ∨ p.2 = none⌝ ∗ owes (thr d L) O W') := by
  simp only [cc2_k_eq_skeleton]; unfold cc2_k_skel
  simp only [k2_part1_eq_skeleton, k2_part2_eq_skeleton]; unfold k2_part1_skel k2_part2_skel
  rw [(K (F := F)).scopedBufs_V hF d (cV L) (jV L), SparseCore.Cfg.scopedSems0_V (Val := Elt F) d (cV L) (jV L), ownSems0_tile, ownBufs_tile,
    semNine, scrNine, tileRes_views, tileRes_views]
  iintro ⟨#Hlv, -, ⟨Hi1, Hi2, Hi3, Hms, Hf1, Hf2, Htt, Ho0, Ho1⟩,
    ⟨⟨⟨%c1, Hl1⟩, ⟨%c2, Hl2⟩, ⟨%c3, Hl3⟩, ⟨%c4, Hm⟩, ⟨%c5, Ht⟩, ⟨%c6, Hp1⟩, ⟨%c7, Hp2⟩, ⟨%c8, Ha0⟩, ⟨%c9, Ha1⟩⟩, Hbufs⟩,
    ⟨⟨Hs1, Hs2, Hs3, Hsm, Hst, Hsp1, Hsp2, Hso0, Hso1⟩, Hsems⟩, HO⟩
  ihave Hmw := (show levAts (K (F := F)).L (K (F := F)).lev ⊢ Transfers.MayWaits (thr d L) (default : HIx 1) O from
    (K (F := F)).mayWaits_none (thr := thr d L) hO) $$ Hlv
  sl_exec
  have hl1 : View.write (Elt F) l1S.view c1 (tile_body.sl.dma0 L a) Finset.univ = rowOf a.i1 (bL L) :=
    (View.write_whole_univ _ _ _).trans (read_i1K L a)
  have hin1 : ∀ x, (l1S.view.read (Elt F) (rowOf a.i1 (bL L)) x).toNat < S8388608.size (gathers_S8388608_S2048).axis := fun x => hin.i1 _
  ihave Hl1' := (Entails.of_eq (show (l1S.view.loc (thr d L) ↦{fullShare} View.write (Elt F) l1S.view c1 (tile_body.sl.dma0 L a) Finset.univ : sProp 𝕄)
      = l1S.view.loc (thr d L) ↦[l1S.view.set]{fullShare} rowOf a.i1 (bL L) by rw [hl1, View.set_whole])) $$ Hl1
  ihave Hp1' := (Entails.of_eq (show (p1S.view.loc (thr d L) ↦{fullShare} c6 : sProp 𝕄)
      = p1S.view.loc (thr d L) ↦[p1S.view.set]{fullShare} c6 by rw [View.set_whole])) $$ Hp1
  ihave Hf1s := (pointsTo_split_subset (q := Transfers.shareTokN fullShare (bL L).val) (f := a.f1) (S := Finset.univ) (Finset.subset_univ (f1K).view.set)).1 $$ Hf1
  icases Hf1s with ⟨Hf1s, Hf1r⟩
  iapply (SparseCore.wp_indirectGatherLocal countersEmb 𝒱₀ (thr d L) none (hg := gathers_S8388608_S2048) (default : HIx 1)
      p1S.view.dmaCredit (credit_rows _ _ _ credit_p1) (by decide) hin1) $$ [Hf1s Hp1' Hl1' Hsp1]
  · isplitl [Hf1s]; · iexact Hf1s
    isplitl [Hp1']; · iexact Hp1'
    isplitl [Hl1']; · iexact Hl1'
    iexact Hsp1
  iintro Hsp1
  sl_exec
  have hl2 : View.write (Elt F) l2S.view c2 (tile_body.sl.dma0_1 L a) Finset.univ = rowOf a.i2 (bL L) :=
    (View.write_whole_univ _ _ _).trans (read_i2K L a)
  have hin2 : ∀ x, (l2S.view.read (Elt F) (rowOf a.i2 (bL L)) x).toNat < S8388608.size (gathers_S8388608_S2048).axis := fun x => hin.i2 _
  ihave Hl2' := (Entails.of_eq (show (l2S.view.loc (thr d L) ↦{fullShare} View.write (Elt F) l2S.view c2 (tile_body.sl.dma0_1 L a) Finset.univ : sProp 𝕄)
      = l2S.view.loc (thr d L) ↦[l2S.view.set]{fullShare} rowOf a.i2 (bL L) by rw [hl2, View.set_whole])) $$ Hl2
  ihave Hp2' := (Entails.of_eq (show (p2S.view.loc (thr d L) ↦{fullShare} c7 : sProp 𝕄)
      = p2S.view.loc (thr d L) ↦[p2S.view.set]{fullShare} c7 by rw [View.set_whole])) $$ Hp2
  ihave Hf2s := (pointsTo_split_subset (q := Transfers.shareTokN fullShare (bL L).val) (f := a.f2) (S := Finset.univ) (Finset.subset_univ (f2K).view.set)).1 $$ Hf2
  icases Hf2s with ⟨Hf2s, Hf2r⟩
  iapply (SparseCore.wp_indirectGatherLocal countersEmb 𝒱₀ (thr d L) none (hg := gathers_S8388608_S2048) (default : HIx 1)
      p2S.view.dmaCredit (credit_rows _ _ _ credit_p2) (by decide) hin2) $$ [Hf2s Hp2' Hl2' Hsp2]
  · isplitl [Hf2s]; · iexact Hf2s
    isplitl [Hp2']; · iexact Hp2'
    isplitl [Hl2']; · iexact Hl2'
    iexact Hsp2
  iintro Hsp2
  sl_exec
  have hl3 : View.write (Elt F) l3S.view c3 (tile_body.sl.dma0_2 L a) Finset.univ = rowOf a.i3 (bL L) :=
    (View.write_whole_univ _ _ _).trans (read_i3K L a)
  have hin3 : ∀ x, (l3S.view.read (Elt F) (rowOf a.i3 (bL L)) x).toNat < S64000.size (gathers_S64000_S2048).axis := fun x => hin.i3 _
  ihave Hl3' := (Entails.of_eq (show (l3S.view.loc (thr d L) ↦{fullShare} View.write (Elt F) l3S.view c3 (tile_body.sl.dma0_2 L a) Finset.univ : sProp 𝕄)
      = l3S.view.loc (thr d L) ↦[l3S.view.set]{fullShare} rowOf a.i3 (bL L) by rw [hl3, View.set_whole])) $$ Hl3
  ihave Ht' := (Entails.of_eq (show (tS.view.loc (thr d L) ↦{fullShare} c5 : sProp 𝕄)
      = tS.view.loc (thr d L) ↦[tS.view.set]{fullShare} c5 by rw [View.set_whole])) $$ Ht
  ihave Htts := (pointsTo_split_subset (q := Transfers.shareTokN fullShare (bL L).val) (f := a.tt) (S := Finset.univ) (Finset.subset_univ (ttK).view.set)).1 $$ Htt
  icases Htts with ⟨Htts, Httr⟩
  iapply (SparseCore.wp_indirectGatherLocal countersEmb 𝒱₀ (thr d L) none (hg := gathers_S64000_S2048) (default : HIx 1)
      tS.view.dmaCredit (credit_rows _ _ _ credit_t) (by decide) hin3) $$ [Htts Ht' Hl3' Hst]
  · isplitl [Htts]; · iexact Htts
    isplitl [Ht']; · iexact Ht'
    isplitl [Hl3']; · iexact Hl3'
    iexact Hst
  iintro Hst
  sl_exec
  iapply (Transfers.wp_waitLocalO countersEmb 𝒱₀ (thr d L) none (default : HIx 1) (rfl : tS.view.dmaCredit = _)) $$ [Hst HO]
  · isplitl [Hst]; · iexact Hst
    isplitl [HO]; · iexact HO
    iapply (Transfers.MayWaits.elim (SemLoc.dma cc2_scratch13.sem)) $$ Hmw
  iintro ⟨⟨Ht, Htts, Hl3⟩, Hst, HO⟩
  ihave Htt := (join_tt d L _ _) $$ [Htts Httr]; · isplitl [Htts] <;> iassumption
  ihave Ht' := (Entails.of_eq (show (tS.view.loc (thr d L) ↦[tS.view.set]{fullShare} _ : sProp 𝕄)
      = tS.view.loc (thr d L) ↦{fullShare} a.tg (bL L) by rw [View.set_whole]; exact congrArg _ (landed_t a (bL L) _ _ _))) $$ Ht
  sl_exec
  iapply (Transfers.wp_waitLocalO countersEmb 𝒱₀ (thr d L) none (default : HIx 1) (rfl : p1S.view.dmaCredit = _)) $$ [Hsp1 HO]
  · isplitl [Hsp1]; · iexact Hsp1
    isplitl [HO]; · iexact HO
    iapply (Transfers.MayWaits.elim (SemLoc.dma cc2_scratch14.sem)) $$ Hmw
  iintro ⟨⟨Hp1, Hf1s, Hl1⟩, Hsp1, HO⟩
  ihave Hf1 := (join_f1 d L _ _) $$ [Hf1s Hf1r]; · isplitl [Hf1s] <;> iassumption
  ihave Hp1' := (Entails.of_eq (show (p1S.view.loc (thr d L) ↦[p1S.view.set]{fullShare} _ : sProp 𝕄)
      = p1S.view.loc (thr d L) ↦{fullShare} a.p1 (bL L) by rw [View.set_whole]; exact congrArg _ (landed_p1 a (bL L) _ _ _))) $$ Hp1
  sl_exec
  iapply (Transfers.wp_waitLocalO countersEmb 𝒱₀ (thr d L) none (default : HIx 1) (rfl : p2S.view.dmaCredit = _)) $$ [Hsp2 HO]
  · isplitl [Hsp2]; · iexact Hsp2
    isplitl [HO]; · iexact HO
    iapply (Transfers.MayWaits.elim (SemLoc.dma cc2_scratch15.sem)) $$ Hmw
  iintro ⟨⟨Hp2, Hf2s, Hl2⟩, Hsp2, HO⟩
  ihave Hf2 := (join_f2 d L _ _) $$ [Hf2s Hf2r]; · isplitl [Hf2s] <;> iassumption
  ihave Hp2' := (Entails.of_eq (show (p2S.view.loc (thr d L) ↦[p2S.view.set]{fullShare} _ : sProp 𝕄)
      = p2S.view.loc (thr d L) ↦{fullShare} a.p2 (bL L) by rw [View.set_whole]; exact congrArg _ (landed_p2 a (bL L) _ _ _))) $$ Hp2
  sl_exec
  have hm : View.write (Elt F) mS.view c4 (tile_body.sl.dma0_3 L a) Finset.univ = rowOf a.ms (bL L) :=
    (View.write_whole_univ _ _ _).trans (read_msK L a)
  rw [hm, Prog.bind_assoc]
  sl_for (inv d L a) $$ [Hm Ht' Hp1' Hp2']
  case region =>
    intro k s
    unfold inv
    iintro ⟨Hm, Ht, Hp1, Hp2, %hs⟩
    sl_exec
    sl_step
    isplitl [Hm]; · iexact Hm
    isplitl [Ht]; · iexact Ht
    isplitl [Hp1]; · iexact Hp1
    isplitl [Hp2]; · iexact Hp2
    ipureintro
    subst hs
    have e1 := load_mchunk (rowOf a.ms (bL L)) k
    have e2 := load_chunk (a.p1 (bL L)) k
    have e3 := load_chunk (a.p2 (bL L)) k
    have e4 := load_chunk (a.tg (bL L)) k
    show _ = trip _ _ _ _ _ _
    unfold trip
    rw [← e1, ← e2, ← e3, ← e4]
    rfl
  · unfold inv
    isplitl [Hm]; · iexact Hm
    isplitl [Ht']; · iexact Ht'
    isplitl [Hp1']; · iexact Hp1'
    isplitl [Hp2']; · iexact Hp2'
    ipureintro; rfl
  iintro %s HI
  unfold inv
  icases HI with ⟨Hm, Ht, Hp1, Hp2, %hs⟩
  sl_exec
  rw [trips_eq] at hs
  have hr0 : ∀ i ∈ (o0K L).view.set, (o0K L).view.writes (Elt F) a.o0 [⟨Rect.whole S16, tile_body.sl.dma4 d L c8 s⟩] i = a.r0 i := by
    refine o0K_ext L _ _ ?_
    rw [View.read_writes_whole, read_o0K]
    refine (View.read_writes_full a0S.view c8 inb_S16_S16_0 (k2_pay5 s.1) []).trans ?_
    rw [hs]; rfl
  have hr1 : ∀ i ∈ (o1K L).view.set, (o1K L).view.writes (Elt F) a.o1 [⟨Rect.whole S16, tile_body.sl.dma4_1 d L c9 s⟩] i = a.r1 i := by
    refine o1K_ext L _ _ ?_
    rw [View.read_writes_whole, read_o1K]
    refine (View.read_writes_full a1S.view c9 inb_S16_S16_0 (k2_pay6 s.2) []).trans ?_
    rw [hs]; rfl
  ihave Ho0 := (Entails.of_eq (pointsTo_congr (ℓ := (o0K L).view.loc (thr d L)) (q := fullShare) hr0)) $$ Ho0
  ihave Ho1 := (Entails.of_eq (pointsTo_congr (ℓ := (o1K L).view.loc (thr d L)) (q := fullShare) hr1)) $$ Ho1
  sl_step
  isplitl [Hi1 Hi2 Hi3 Hms Hf1 Hf2 Htt Ho0 Ho1]
  · isplitl [Hi1]; · iexact Hi1
    isplitl [Hi2]; · iexact Hi2
    isplitl [Hi3]; · iexact Hi3
    isplitl [Hms]; · iexact Hms
    isplitl [Hf1]; · iexact Hf1
    isplitl [Hf2]; · iexact Hf2
    isplitl [Htt]; · iexact Htt
    isplitl [Ho0]; · iexact Ho0
    iexact Ho1
  isplitl [Hl1 Hl2 Hl3 Hm Ht Hp1 Hp2 Ha0 Ha1 Hbufs]
  · isplitr [Hbufs]; swap; · iexact Hbufs
    rw [View.set_whole, View.set_whole, View.set_whole]
    isplitl [Hl1]; · iexists _; iexact Hl1
    isplitl [Hl2]; · iexists _; iexact Hl2
    isplitl [Hl3]; · iexists _; iexact Hl3
    isplitl [Hm]; · iexists _; iexact Hm
    isplitl [Ht]; · iexists _; iexact Ht
    isplitl [Hp1]; · iexists _; iexact Hp1
    isplitl [Hp2]; · iexists _; iexact Hp2
    isplitl [Ha0]; · iexists _; iexact Ha0
    iexists _; iexact Ha1
  isplitr [HO]
  · isplitr [Hsems]; swap; · iexact Hsems
    isplitl [Hs1]; · iexact Hs1
    isplitl [Hs2]; · iexact Hs2
    isplitl [Hs3]; · iexact Hs3
    isplitl [Hsm]; · iexact Hsm
    isplitl [Hst]; · iexact Hst
    isplitl [Hsp1]; · iexact Hsp1
    isplitl [Hsp2]; · iexact Hsp2
    isplitl [Hso0]; · iexact Hso0
    iexact Hso1
  iexists _; isplitr
  swap; · iexact HO
  ipureintro; intro p hp
  simp only [Finset.mem_insert] at hp
  rcases hp with hp | hp | hp | hp | hp | hp | hp | hp | hp | hp
  iterate 9 exact .inr (hp ▸ rfl)
  exact .inl hp

/-! ## The obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_k (coordsV c s) f1V (Memref.isWhole_whole _) f2V (Memref.isWhole_whole _) ttV (Memref.isWhole_whole _)
            i1V (Memref.isWhole_whole _) i2V (Memref.isWhole_whole _) i3V (Memref.isWhole_whole _) msV (Memref.isWhole_whole _)
            o0V (Memref.isWhole_whole _) o1V (Memref.isWhole_whole _)
            l1S (Memref.isWhole_whole _) l2S (Memref.isWhole_whole _) l3S (Memref.isWhole_whole _) mS (Memref.isWhole_whole _)
            tS (Memref.isWhole_whole _) p1S (Memref.isWhole_whole _) p2S (Memref.isWhole_whole _) a0S (Memref.isWhole_whole _) a1S (Memref.isWhole_whole _)
            cc2_scratch9 cc2_scratch10 cc2_scratch11 cc2_scratch12 cc2_scratch13 cc2_scratch14 cc2_scratch15 cc2_scoped0 cc2_scoped1) ⟨⟩ c s := rfl

theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile meets the call's obligation, its offsets in range. -/
theorem tileObl (a : Dev nD → Arr F) (hF : (K (F := F)).Facts) (hin : ∀ d, (a d).InRange) : (K (F := F)).TileObl (D (F := F)) 𝒱 (P a) v₀ 0 := by
  intro d c i O W hO _ _
  simp only [show (P a).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (a d) hF (hin d) O W hO).trans (wp_mono frame _ _ fun _ => obl_post)

end Tile

end Cert.Proof

end
-- ==== Proof.Bodies.lean ====
/-
  The bodies of the three TensorCore kernels, each run once: from its windows' staging buffers at any contents to the
  inputs' buffers as they were and the results' at closed functions of the inputs' contents.
-/
module

public import proofs.«01_k».proof.Proof.Launch
public import Idealize.ShloMosaic.Lib.WritesUnit
public import Idealize.ShloMosaic.Lib.VecWindow
public import Idealize.ShloMosaic.Lib.Pipeline.Value
public import Idealize.ShloMosaic.Lib.Tactic

@[expose] public section

noncomputable section

namespace Cert.Proof

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Memref `M` on core `c` held whole, reading as `X`. -/
abbrev own (c : Dev nD) {sp : Space} {S : Shape} {e : EltTy} (M : Memref sig .tc sp S e) (X : S.Idx → Elt F e) : sProp 𝕄 :=
  owns (c : Thread nD τ) M fullShare X

omit [FloatOps F] in
theorem own_open (c : Dev nD) {sp : Space} {S : Shape} {e : EltTy} (M : Memref sig .tc sp S e) (h : M.IsWhole) (X : S.Idx → Elt F e) :
    (own c M X : sProp 𝕄) = iprop(∃ f, ⌜M.view.read (Elt F) f = X⌝ ∗ (M.view.loc (c : Thread nD τ) ↦{fullShare} f)) := by
  unfold own owns
  rw [h.set_eq_univ]

/-! ## The splitting of the second feature map -/

/-- What `cc0_kd` writes of a block of eight images: their left halves flat, then their right halves flat. -/
def halves (x : S8x4x256x256.Idx → F .f32) : S2097152.Idx → F .f32 := fun j =>
  if h : (j 0).val < 1048576 then k0_pay1 x (ix1 ⟨(j 0).val, h⟩)
  else k0_pay2 x (ix1 ⟨(j 0).val - 1048576, by have h2 : (j 0).val < 2097152 := (j 0).isLt; omega⟩)

theorem read_halves {κ : Kind} {sp : Space} (v : View sig κ sp S2097152 .f32) (f : v.ty.Contents (Elt F)) (i0 i1)
    (x y : S8x4x256x256.Idx → F .f32) (e : y = x) :
    v.read (Elt F) (v.writes (Elt F) f [⟨Rect.unit ![1048576] ![1048576] i1, k0_pay2 y⟩, ⟨Rect.unit ![0] ![1048576] i0, k0_pay1 y⟩])
      = halves x := by
  subst e
  funext j
  have hj : (j 0).val < 2097152 := (j 0).isLt
  unfold halves
  by_cases h : (j 0).val < 1048576
  · rw [dif_pos h]
    refine (View.read_writes_cons_unit_of_not_mem v f i1 _ _ j rfl (0 : Fin 1) (Or.inl h)).trans ?_
    exact View.read_writes_cons_unit_of_mem v f i0 _ _ j (ix1 ⟨(j 0).val, h⟩) rfl fun a => by
      obtain rfl : a = 0 := Subsingleton.elim _ _
      exact (Nat.zero_add _).symm
  · rw [dif_neg h]
    exact View.read_writes_cons_unit_of_mem v f i1 _ _ j (ix1 ⟨(j 0).val - 1048576, by omega⟩) rfl fun a => by
      obtain rfl : a = 0 := Subsingleton.elim _ _
      show (j 0).val = 1048576 + ((j 0).val - 1048576)
      omega

theorem run_kd (c : Dev nD) (i : grid0.Coords) (M0 : Memref sig .tc .vmem S8x4x256x256 .f32) (h0 : M0.IsWhole)
    (M1 : Memref sig .tc .vmem S2097152 .f32) (h1 : M1.IsWhole) (x0 : S8x4x256x256.Idx → F .f32) (x1 : S2097152.Idx → F .f32)
    (E : Set ℕ) (Q : PUnit → sProp 𝕄) :
    iprop(own c M0 x0 ∗ own c M1 x1 ∗ (iprop(own c M0 x0 ∗ own c M1 (halves x0)) -∗ Q ⟨⟩))
      ⊢ wp frame (wpE (defs₀ (F := F)) Variants.none c none) E (cc0_kd i M0 h0 M1 h1) Q := by
  rw [cc0_kd_eq_skeleton]
  unfold cc0_kd_skel
  simp only [own_open, h0, h1]
  iintro ⟨⟨%f0, %e0, H0⟩, ⟨%f1, -, H1⟩, Hk⟩
  sl_exec!
  sl_step
  iapply Hk
  isplitl [H0]
  · iexists f0; isplitr; · ipureintro; exact e0
    iexact H0
  iexists _; isplitr; swap; · iexact H1
  ipureintro
  unfold run_kd.sl.H1_2
  exact read_halves M1.view _ _ _ _ _ ((View.readAt_full M0.view f0 _).trans e0)

/-! ## The index lists and the mask -/

/-- Four blocks of 512 columns side by side. -/
def cols4 {α : Type} (p0 p1 p2 p3 : S32x512.Idx → α) : S32x2048.Idx → α := fun y =>
  let k : Fin 512 := ⟨(y 1).val % 512, Nat.mod_lt _ (by decide)⟩
  if (y 1).val < 512 then p0 (ix2 (y 0) k) else if (y 1).val < 1024 then p1 (ix2 (y 0) k)
  else if (y 1).val < 1536 then p2 (ix2 (y 0) k) else p3 (ix2 (y 0) k)

/-- Positions of an image's rows in the split second feature map, channel 0. -/
def posOf (ind : S32x500.Idx → BitVec 32) : IVec S32x512 32 :=
  k1_pay7 (iota .tc S32x512 32 [0] iota_S32x512_d0_w32) (k1_pay5 (F := F) ind) (k1_pay6 (F := F) ind) 8#32 0#32
/-- Positions of the targets, channel 0. -/
def tgtOf : IVec S32x512 32 :=
  k1_pay8 (iota .tc S32x512 32 [1] iota_S32x512_d1_w32) (iota .tc S32x512 32 [0] iota_S32x512_d0_w32) k1_pay4
/-- Positions in the first feature map, channel 0. -/
def linOf (ind : S32x500.Idx → BitVec 32) : IVec S32x512 32 :=
  k1_pay9 (iota .tc S32x512 32 [0] iota_S32x512_d0_w32) (k1_pay5 (F := F) ind)

/-- The three index lists and the mask as floats, as `cc1_ks` writes them. -/
def list1 (ind : S32x500.Idx → BitVec 32) : S32x2048.Idx → BitVec 32 :=
  cols4 (k1_pay10 (iota .tc S32x512 32 [0] iota_S32x512_d0_w32) (k1_pay5 (F := F) ind)) (k1_pay13 (linOf (F := F) ind))
    (k1_pay16 (linOf (F := F) ind)) (k1_pay19 (linOf (F := F) ind))
@[inherit_doc list1] def list2 (ind : S32x500.Idx → BitVec 32) : S32x2048.Idx → BitVec 32 :=
  cols4 (k1_pay11 (iota .tc S32x512 32 [0] iota_S32x512_d0_w32) (k1_pay5 (F := F) ind) (k1_pay6 (F := F) ind) 8#32 0#32)
    (k1_pay14 (posOf (F := F) ind)) (k1_pay17 (posOf (F := F) ind)) (k1_pay1 (posOf (F := F) ind) 98304#32)
@[inherit_doc list1] def list3 : S32x2048.Idx → BitVec 32 :=
  cols4 (k1_pay12 tgtOf) (k1_pay15 tgtOf) (k1_pay18 tgtOf) (k1_pay2 tgtOf)
@[inherit_doc list1] def maskf (mk : S32x500.Idx → BitVec 32) : S32x512.Idx → F .f32 := k1_pay3 k1_pay4 mk

theorem read_cols4 {κ : Kind} {sp : Space} {e : EltTy} (v : View sig κ sp S32x2048 e) (f : v.ty.Contents (Elt F)) (i0 i1 i2 i3)
    (p0 p1 p2 p3 : S32x512.Idx → Elt F e) :
    v.read (Elt F) (v.writes (Elt F) f [⟨Rect.unit ![0, 1536] ![32, 512] i3, p3⟩, ⟨Rect.unit ![0, 1024] ![32, 512] i2, p2⟩,
        ⟨Rect.unit ![0, 512] ![32, 512] i1, p1⟩, ⟨Rect.unit ![0, 0] ![32, 512] i0, p0⟩])
      = cols4 p0 p1 p2 p3 := by
  funext y
  have hy : (y 1).val < 2048 := (y 1).isLt
  have hit : ∀ (o : ℕ), o = 512 * ((y 1).val / 512) → ∀ a : Fin 2, (y a).val = (![0, o] : Fin 2 → ℕ) a
      + ((ix2 (y 0) ⟨(y 1).val % 512, Nat.mod_lt _ (by decide)⟩ : S32x512.Idx) a).val := by
    intro o ho
    refine Fin.forall_fin_two.mpr ⟨(Nat.zero_add _).symm, ?_⟩
    show (y 1).val = o + (y 1).val % 512
    omega
  unfold cols4
  dsimp only
  by_cases h0 : (y 1).val < 512
  · rw [if_pos h0]
    refine (View.read_writes_cons_unit_of_not_mem v f i3 _ _ y rfl (1 : Fin 2) (Or.inl (show (y 1).val < 1536 by omega))).trans ?_
    refine (View.read_writes_cons_unit_of_not_mem v f i2 _ _ y rfl (1 : Fin 2) (Or.inl (show (y 1).val < 1024 by omega))).trans ?_
    refine (View.read_writes_cons_unit_of_not_mem v f i1 _ _ y rfl (1 : Fin 2) (Or.inl (show (y 1).val < 512 by omega))).trans ?_
    exact View.read_writes_cons_unit_of_mem v f i0 _ _ y _ rfl (hit 0 (by omega))
  rw [if_neg h0]
  by_cases h1 : (y 1).val < 1024
  · rw [if_pos h1]
    refine (View.read_writes_cons_unit_of_not_mem v f i3 _ _ y rfl (1 : Fin 2) (Or.inl (show (y 1).val < 1536 by omega))).trans ?_
    refine (View.read_writes_cons_unit_of_not_mem v f i2 _ _ y rfl (1 : Fin 2) (Or.inl (show (y 1).val < 1024 by omega))).trans ?_
    exact View.read_writes_cons_unit_of_mem v f i1 _ _ y _ rfl (hit 512 (by omega))
  rw [if_neg h1]
  by_cases h2 : (y 1).val < 1536
  · rw [if_pos h2]
    refine (View.read_writes_cons_unit_of_not_mem v f i3 _ _ y rfl (1 : Fin 2) (Or.inl (show (y 1).val < 1536 by omega))).trans ?_
    exact View.read_writes_cons_unit_of_mem v f i2 _ _ y _ rfl (hit 1024 (by omega))
  rw [if_neg h2]
  exact View.read_writes_cons_unit_of_mem v f i3 _ _ y _ rfl (hit 1536 (by omega))

theorem run_ks (c : Dev nD) (M0 : Memref sig .tc .vmem S32x500 .i32) (h0 : M0.IsWhole) (M1 : Memref sig .tc .vmem S32x500 .i32) (h1 : M1.IsWhole)
    (M2 : Memref sig .tc .vmem S32x2048 .i32) (h2 : M2.IsWhole) (M3 : Memref sig .tc .vmem S32x2048 .i32) (h3 : M3.IsWhole)
    (M4 : Memref sig .tc .vmem S32x2048 .i32) (h4 : M4.IsWhole) (M5 : Memref sig .tc .vmem S32x512 .f32) (h5 : M5.IsWhole)
    (x0 x1 : S32x500.Idx → BitVec 32) (x2 x3 x4 : S32x2048.Idx → BitVec 32) (x5 : S32x512.Idx → F .f32)
    (E : Set ℕ) (Q : PUnit → sProp 𝕄) :
    iprop(own (F := F) c M0 x0 ∗ own (F := F) c M1 x1 ∗ own (F := F) c M2 x2 ∗ own (F := F) c M3 x3 ∗ own (F := F) c M4 x4 ∗ own c M5 x5
        ∗ (iprop(own (F := F) c M0 x0 ∗ own (F := F) c M1 x1 ∗ own (F := F) c M2 (list1 (F := F) x0) ∗ own (F := F) c M3 (list2 (F := F) x0)
          ∗ own (F := F) c M4 list3 ∗ own c M5 (maskf (F := F) x1)) -∗ Q ⟨⟩))
      ⊢ wp frame (wpE (defs₀ (F := F)) Variants.none c none) E (cc1_ks M0 h0 M1 h1 M2 h2 M3 h3 M4 h4 M5 h5) Q := by
  rw [cc1_ks_eq_skeleton]
  unfold cc1_ks_skel
  rw [k1_part1_eq_skeleton, k1_part2_eq_skeleton, k1_part3_eq_skeleton]
  unfold k1_part1_skel k1_part2_skel k1_part3_skel
  simp only [own_open, h0, h1, h2, h3, h4, h5]
  iintro ⟨⟨%f0, %e0, H0⟩, ⟨%f1, %e1, H1⟩, ⟨%f2, -, H2⟩, ⟨%f3, -, H3⟩, ⟨%f4, -, H4⟩, ⟨%f5, -, H5⟩, Hk⟩
  sl_exec!
  sl_step
  have l0 : View.readAt (Elt F) M0.view (Rect.unit ![0, 0] ![32, 500] inb_S32x500_S32x500_0_0).toLoadRect f0 = x0 :=
    (View.readAt_full M0.view f0 _).trans e0
  have l1 : View.readAt (Elt F) M1.view (Rect.unit ![0, 0] ![32, 500] inb_S32x500_S32x500_0_0).toLoadRect f1 = x1 :=
    (View.readAt_full M1.view f1 _).trans e1
  iapply Hk
  isplitl [H0]
  · iexists f0; isplitr; · ipureintro; exact e0
    iexact H0
  isplitl [H1]
  · iexists f1; isplitr; · ipureintro; exact e1
    iexact H1
  isplitl [H2]
  · iexists _; isplitr; swap; · iexact H2
    ipureintro
    unfold run_ks.sl.H2_4
    dsimp only
    rw [l0]; exact read_cols4 M2.view _ _ _ _ _ _ _ _ _
  isplitl [H3]
  · iexists _; isplitr; swap; · iexact H3
    ipureintro
    unfold run_ks.sl.H3_4
    dsimp only
    rw [l0]; exact read_cols4 M3.view _ _ _ _ _ _ _ _ _
  isplitl [H4]
  · iexists _; isplitr; swap; · iexact H4
    ipureintro
    unfold run_ks.sl.H4_4
    dsimp only
    exact read_cols4 M4.view _ _ _ _ _ _ _ _ _
  iexists _; isplitr; swap; · iexact H5
  ipureintro
  unfold run_ks.sl.H5_1
  dsimp only
  rw [l1]; exact View.read_writes_full M5.view _ _ _ _

/-! ## The quotient -/

/-- What `cc3_k` writes: the quotient of the two accumulators' sums. -/
def quot (x0 x1 : S32x16.Idx → F .f32) : S1.Idx → F .f32 := fun _ => k3_pay1 x0 x1

theorem run_k (c : Dev nD) (M0 : Memref sig .tc .vmem S32x16 .f32) (h0 : M0.IsWhole) (M1 : Memref sig .tc .vmem S32x16 .f32) (h1 : M1.IsWhole)
    (M2 : Memref sig .tc .smem S1 .f32) (h2 : M2.IsWhole) (x0 x1 : S32x16.Idx → F .f32) (x2 : S1.Idx → F .f32)
    (E : Set ℕ) (Q : PUnit → sProp 𝕄) :
    iprop(own c M0 x0 ∗ own c M1 x1 ∗ own c M2 x2 ∗ (iprop(own c M0 x0 ∗ own c M1 x1 ∗ own c M2 (quot x0 x1)) -∗ Q ⟨⟩))
      ⊢ wp frame (wpE (defs₀ (F := F)) Variants.none c none) E (cc3_k M0 h0 M1 h1 M2 h2) Q := by
  rw [cc3_k_eq_skeleton]
  unfold cc3_k_skel
  simp only [own_open, h0, h1, h2]
  iintro ⟨⟨%f0, %e0, H0⟩, ⟨%f1, %e1, H1⟩, ⟨%f2, -, H2⟩, Hk⟩
  sl_exec!
  sl_step
  iapply Hk
  isplitl [H0]
  · iexists f0; isplitr; · ipureintro; exact e0
    iexact H0
  isplitl [H1]
  · iexists f1; isplitr; · ipureintro; exact e1
    iexact H1
  iexists _; isplitr; swap; · iexact H2
  ipureintro
  unfold run_k.sl.H2_1
  have l0 := (View.readAt_full M0.view f0 inb_S32x16_S32x16_0_0).trans e0
  have l1 := (View.readAt_full M1.view f1 inb_S32x16_S32x16_0_0).trans e1
  exact (View.read_writes_full M2.view _ _ _ _).trans (funext fun _ => congrArg₂ (k3_pay1 (F := F)) l0 l1)

end Cert.Proof

end
-- ==== Proof.Regions.lean ====
/-
  The TensorCore's three kernel calls, each as a step of @main: entered with every unscoped buffer at a valuation,
  left with the call's results in their arrays and everything else as it was.
-/
module

public import proofs.«01_k».proof.Proof.Bodies
public import proofs.«01_k».proof.Proof.Gen.KernelIdeal.Points
public import Idealize.ShloMosaic.Lib.Pipeline.ValueKit

@[expose] public section

noncomputable section

namespace Cert.Proof

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-! ## The thread state -/

/-- The unscoped buffers' contents on every device. -/
abbrev Vals (F : FTy → Type) : Type := (c : Dev nD) → (b : Ref sig .tc) → Buf (Elt F) ((c : Thread nD τ).loc b)

/-- What the TensorCore owes before SparseCore call `n`, its recorded waits bounded by that call's level. -/
abbrev tcOwes (d : Dev nD) (n : ℕ) : sProp 𝕄 :=
  iprop(∃ W, ⌜(K (F := F)).WBelow (SparseCore.T d) W (8 * n)⌝ ∗ owes (SparseCore.T d) ((K (F := F)).Otc d n) W)

/-- The TensorCore owes nothing at the index its pipelines wait at. -/
theorem Otc_none (d : Dev nD) (n : ℕ) (g : GSem nD τ sig) : (K (F := F)).Otc d n g (none : HIx 1) = 0 := by
  by_contra h
  have := (K (F := F)).lev_of_Otc_pos (Nat.pos_of_ne_zero h)
  rw [SparseCore.Cfg.lev_none] at this
  omega

/-- The pairs a wait may have recorded before call `n`. -/
def recd (d : Dev nD) (n : ℕ) : Set (SemLoc sig × HIx 1) := {p | (K (F := F)).lev (SparseCore.T d, p.1) p.2 ≤ 8 * n}

/-- Proof data for a call that is not the one running: anything will do. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

variable (adm : (p : Fin 3) → (pcfgs (F := F) p).Adm)

/-! ## Call 0: the split second feature map -/

section Call0

variable (V : Vals F)

/-- Four batches of `main_arg1` at grid point `t`, the staged block. -/
def blk0 (c : Dev nD) (t : Fin cfg0.N) : S8x4x256x256.Idx → F .f32 := ((cfg0.win 0).blk t).view.read (Elt F) (V c main_arg1)

/-- Call 0's proof data: its input at `V`, its output's block the input's block in halves. -/
def dat0 (c : Dev nD) : Dat τ (Elt F) (HIx 1) ℕ UU ℕ cfg0 c where
  A w := V c (Pipeline.arrRef spec0 w)
  after w t := match w with
    | ⟨0, _⟩ => blk0 V c t
    | ⟨1, _⟩ => halves (blk0 V c t)
  Φ _ := Pipeline.scopedRest (Ix := HIx 1) (Name := ℕ) (U := UU) (Lvl := ℕ) (Val := Elt F) spec0 c
  q _ := fullShare
  owed _ := (K (F := F)).Otc c 0
  recorded _ := recd (F := F) c 0

/-- The three calls' proof data while call 0 runs. -/
def pdats0 : (p : Fin 3) → (c : Dev nD) → Dat τ (Elt F) (HIx 1) ℕ UU ℕ (Pipeline.pin (pcfgs (F := F)) adm p) c
  | ⟨0, _⟩ => fun c => dat0 V c
  | ⟨1, _⟩ => fun c => junkDat c
  | ⟨2, _⟩ => fun c => junkDat c

theorem before0 (c : Dev nD) (t : Fin cfg0.N) (d : (cfg0.win 0).block.Idx → Elt F (cfg0.win 0).elt) :
    (dat0 V c).before 0 t d = blk0 V c t := by
  unfold Dat.before; rw [if_pos (fetch0_0 t)]; rfl

/-- The body at every point. -/
theorem body0 (c : Dev nD) : BodyObligation (dat0 V c) (defs₀ (F := F)) Variants.none (none : HIx 1) Set.univ := fun t => by
  rw [bigSep_W0, bigSep_W0]
  rw [show (dat0 V c).Φ t.succ = (dat0 V c).Φ t.castSucc from rfl,
    show (dat0 V c).owesAt (none : HIx 1) t.succ = (dat0 V c).owesAt (none : HIx 1) t.castSucc from rfl]
  iintro ⟨HΦ, Howes, ⟨%d0, H0⟩, ⟨%d1, H1⟩⟩
  rw [before0]
  iapply (run_kd c (grid0.coords t) (win0_0.stage (cfg0.slots t 0)) (hstage0_0 ((cfg0.slots t 0).cast nbuf0_0))
    (win0_1.stage (cfg0.slots t 1)) (hstage0_1 ((cfg0.slots t 1).cast nbuf0_1)) (blk0 V c t) _ Set.univ _)
  isplitl [H0]; · iexact H0
  isplitl [H1]; · iexact H1
  iintro ⟨H0, H1⟩
  isplitl [HΦ]; · iexact HΦ
  isplitl [Howes]; · iexact Howes
  isplitl [H0]; · iexact H0
  iexact H1

variable (Vp : Vals F)

set_option backward.isDefEq.respectTransparency.types false in
/-- Call 0 as a step of @main. -/
def reg0 (hout : ∀ c, Vp c main_v1 = (dat0 V c).arrAt 1 cfg0.N) (hne : ∀ c (b : Ref sig .tc), b ≠ main_v1 → Vp c b = V c b) :
    Pipeline.RegionSeg (pcfgs (F := F)) adm (pdats0 adm V) (none : HIx 1) defs₀ Variants.none (K (F := F)).L (K (F := F)).lev 0 where
  win := launch0.win.to₀
  block_pos := launch0.block_pos
  stage_whole := launch0.stage_whole
  K := PEmpty
  osem k := k.elim
  ho := Pipeline.OwnSemFacts.none _
  hbody c := (body0 V c).loose
  hwaits c := Pipeline.cellsWaits_intro _ _ _ _ c fun w s t => (K (F := F)).mayWait_none _ (Otc_none c 0)
  pre c := iprop(unscopedBufs c (V c) ∗ tcOwes (F := F) c 0)
  post c := iprop(unscopedBufs c (Vp c) ∗ tcOwes (F := F) c 0)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats0 adm V) launch0.win launch0.arr_whole c
      ((pdats0 adm V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats0 adm V 0 c).Φ 0 = Pipeline.scopedRest spec0 c from rfl]
    iintro ⟨-, -, Hr⟩; iexact Hr
  hout c := by
    rw [Pipeline.ownSems0_none, show (pdats0 adm V 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats0 adm V) ((pdats0 adm V 0 c).share_full fun _ => rfl) (V c) (Vp c) ((pdats0 adm V 0 c).arrAt · cfg0.N)
      (fun w => by
        fin_cases w
        · exact ((pdats0 adm V 0 c).arrAt_in 0 rfl _).trans (hne c main_arg1 (by decide)).symm
        · exact (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Call0

/-! ## Call 1: the lists of positions and the mask -/

section Call1

variable (V : Vals F)

/-- The index array and the mask as the call stages them. -/
def ind1 (c : Dev nD) : S32x500.Idx → BitVec 32 := ((cfg1.win 0).blk t1_0).view.read (Elt F) (V c main_arg3)
def msk1 (c : Dev nD) : S32x500.Idx → BitVec 32 := ((cfg1.win 1).blk t1_0).view.read (Elt F) (V c main_arg2)

/-- Call 1's proof data: its inputs at `V`, its outputs the three lists and the mask. -/
def dat1 (c : Dev nD) : Dat τ (Elt F) (HIx 1) ℕ UU ℕ cfg1 c where
  A w := V c (Pipeline.arrRef spec1 w)
  after w _ := match w with
    | ⟨0, _⟩ => ind1 V c
    | ⟨1, _⟩ => msk1 V c
    | ⟨2, _⟩ => list1 (F := F) (ind1 V c)
    | ⟨3, _⟩ => list2 (F := F) (ind1 V c)
    | ⟨4, _⟩ => list3
    | ⟨5, _⟩ => maskf (F := F) (msk1 V c)
  Φ _ := Pipeline.scopedRest (Ix := HIx 1) (Name := ℕ) (U := UU) (Lvl := ℕ) (Val := Elt F) spec1 c
  q _ := fullShare
  owed _ := (K (F := F)).Otc c 0
  recorded _ := recd (F := F) c 0

/-- The three calls' proof data while call 1 runs. -/
def pdats1 : (p : Fin 3) → (c : Dev nD) → Dat τ (Elt F) (HIx 1) ℕ UU ℕ (Pipeline.pin (pcfgs (F := F)) adm p) c
  | ⟨0, _⟩ => fun c => junkDat c
  | ⟨1, _⟩ => fun c => dat1 V c
  | ⟨2, _⟩ => fun c => junkDat c

theorem before1_0 (c : Dev nD) (d : (cfg1.win 0).block.Idx → Elt F (cfg1.win 0).elt) :
    (dat1 V c).before 0 t1_0 d = ind1 V c := by
  unfold Dat.before; rw [if_pos (fetch1_0 t1_0)]; rfl

theorem before1_1 (c : Dev nD) (d : (cfg1.win 1).block.Idx → Elt F (cfg1.win 1).elt) :
    (dat1 V c).before 1 t1_0 d = msk1 V c := by
  unfold Dat.before; rw [if_pos (fetch1_1 t1_0)]; rfl

/-- The body at its point. -/
theorem body1 (c : Dev nD) : BodyObligation (dat1 V c) (defs₀ (F := F)) Variants.none (none : HIx 1) Set.univ := fun t => by
  obtain rfl := fin_N1 t
  rw [bigSep_W1, bigSep_W1]
  rw [show (dat1 V c).Φ t1_0.succ = (dat1 V c).Φ t1_0.castSucc from rfl,
    show (dat1 V c).owesAt (none : HIx 1) t1_0.succ = (dat1 V c).owesAt (none : HIx 1) t1_0.castSucc from rfl]
  iintro ⟨HΦ, Howes, ⟨%d0, H0⟩, ⟨%d1, H1⟩, ⟨%d2, H2⟩, ⟨%d3, H3⟩, ⟨%d4, H4⟩, ⟨%d5, H5⟩⟩
  rw [before1_0, before1_1]
  iapply (run_ks c (stage1_0 0) (hstage1_0 0) (stage1_1 0) (hstage1_1 0) (stage1_2 0) (hstage1_2 0) (stage1_3 0) (hstage1_3 0) (stage1_4 0) (hstage1_4 0) (stage1_5 0) (hstage1_5 0) (ind1 V c) (msk1 V c) _ _ _ _ Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

variable (Vp : Vals F)

set_option backward.isDefEq.respectTransparency.types false in
/-- Call 1 as a step of @main. -/
def reg1 (hout2 : ∀ c, Vp c main_v2_0 = (dat1 V c).arrAt 2 cfg1.N) (hout3 : ∀ c, Vp c main_v2_1 = (dat1 V c).arrAt 3 cfg1.N) (hout4 : ∀ c, Vp c main_v2_2 = (dat1 V c).arrAt 4 cfg1.N) (hout5 : ∀ c, Vp c main_v2_3 = (dat1 V c).arrAt 5 cfg1.N) (hne : ∀ c (b : Ref sig .tc), b ≠ main_v2_0 → b ≠ main_v2_1 → b ≠ main_v2_2 → b ≠ main_v2_3 → Vp c b = V c b) :
    Pipeline.RegionSeg (pcfgs (F := F)) adm (pdats1 adm V) (none : HIx 1) defs₀ Variants.none (K (F := F)).L (K (F := F)).lev 1 where
  win := launch1.win.to₀
  block_pos := launch1.block_pos
  stage_whole := launch1.stage_whole
  K := PEmpty
  osem k := k.elim
  ho := Pipeline.OwnSemFacts.none _
  hbody c := (body1 V c).loose
  hwaits c := Pipeline.cellsWaits_intro _ _ _ _ c fun w s t => (K (F := F)).mayWait_none _ (Otc_none c 0)
  pre c := iprop(unscopedBufs c (V c) ∗ tcOwes (F := F) c 0)
  post c := iprop(unscopedBufs c (Vp c) ∗ tcOwes (F := F) c 0)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 1) (pcfgs (F := F)) adm (pdats1 adm V) launch1.win launch1.arr_whole c
      ((pdats1 adm V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats1 adm V 1 c).Φ 0 = Pipeline.scopedRest spec1 c from rfl]
    iintro ⟨-, -, Hr⟩; iexact Hr
  hout c := by
    rw [Pipeline.ownSems0_none, show (pdats1 adm V 1 c).Φ (Fin.last _) = Pipeline.scopedRest spec1 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch1.win launch1.arr_whole c
      (pdats1 adm V) ((pdats1 adm V 1 c).share_full fun _ => rfl) (V c) (Vp c) ((pdats1 adm V 1 c).arrAt · cfg1.N)
      (fun w => by
        fin_cases w
        · exact ((pdats1 adm V 1 c).arrAt_in 0 rfl _).trans (hne c main_arg3 (by decide) (by decide) (by decide) (by decide)).symm
        · exact ((pdats1 adm V 1 c).arrAt_in 1 rfl _).trans (hne c main_arg2 (by decide) (by decide) (by decide) (by decide)).symm
        · exact (hout2 c).symm
        · exact (hout3 c).symm
        · exact (hout4 c).symm
        · exact (hout5 c).symm)
      (fun b hb => hne c b (fun h => hb (h ▸ Finset.mem_image.mpr ⟨2, Finset.mem_univ _, rfl⟩)) (fun h => hb (h ▸ Finset.mem_image.mpr ⟨3, Finset.mem_univ _, rfl⟩)) (fun h => hb (h ▸ Finset.mem_image.mpr ⟨4, Finset.mem_univ _, rfl⟩)) (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Call1

/-! ## Call 3: the quotient -/

section Call3

variable (V : Vals F)

/-- The partial sums and the partial mask sums as the call stages them. -/
def sum3 (c : Dev nD) : S32x16.Idx → F .f32 := ((cfg3.win 0).blk t3_0).view.read (Elt F) (V c main_v4_0)
def den3 (c : Dev nD) : S32x16.Idx → F .f32 := ((cfg3.win 1).blk t3_0).view.read (Elt F) (V c main_v4_1)

/-- Call 3's proof data: its inputs at `V`, its output the quotient of their sums. -/
def dat3 (c : Dev nD) : Dat τ (Elt F) (HIx 1) ℕ UU ℕ cfg3 c where
  A w := V c (Pipeline.arrRef spec3 w)
  after w _ := match w with
    | ⟨0, _⟩ => sum3 V c
    | ⟨1, _⟩ => den3 V c
    | ⟨2, _⟩ => quot (sum3 V c) (den3 V c)
  Φ _ := Pipeline.scopedRest (Ix := HIx 1) (Name := ℕ) (U := UU) (Lvl := ℕ) (Val := Elt F) spec3 c
  q _ := fullShare
  owed _ := (K (F := F)).Otc c 1
  recorded _ := recd (F := F) c 1

/-- The three calls' proof data while call 3 runs. -/
def pdats3 : (p : Fin 3) → (c : Dev nD) → Dat τ (Elt F) (HIx 1) ℕ UU ℕ (Pipeline.pin (pcfgs (F := F)) adm p) c
  | ⟨0, _⟩ => fun c => junkDat c
  | ⟨1, _⟩ => fun c => junkDat c
  | ⟨2, _⟩ => fun c => dat3 V c

theorem before3_0 (c : Dev nD) (d : (cfg3.win 0).block.Idx → Elt F (cfg3.win 0).elt) :
    (dat3 V c).before 0 t3_0 d = sum3 V c := by
  unfold Dat.before; rw [if_pos (fetch3_0 t3_0)]; rfl

theorem before3_1 (c : Dev nD) (d : (cfg3.win 1).block.Idx → Elt F (cfg3.win 1).elt) :
    (dat3 V c).before 1 t3_0 d = den3 V c := by
  unfold Dat.before; rw [if_pos (fetch3_1 t3_0)]; rfl

/-- The body at its point. -/
theorem body3 (c : Dev nD) : BodyObligation (dat3 V c) (defs₀ (F := F)) Variants.none (none : HIx 1) Set.univ := fun t => by
  obtain rfl := fin_N3 t
  rw [bigSep_W3, bigSep_W3]
  rw [show (dat3 V c).Φ t3_0.succ = (dat3 V c).Φ t3_0.castSucc from rfl,
    show (dat3 V c).owesAt (none : HIx 1) t3_0.succ = (dat3 V c).owesAt (none : HIx 1) t3_0.castSucc from rfl]
  iintro ⟨HΦ, Howes, ⟨%d0, H0⟩, ⟨%d1, H1⟩, ⟨%d2, H2⟩⟩
  rw [before3_0, before3_1]
  iapply (run_k c (stage3_0 0) (hstage3_0 0) (stage3_1 0) (hstage3_1 0) (stage3_2 0) (hstage3_2 0) (sum3 V c) (den3 V c) _ Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

variable (Vp : Vals F)

set_option backward.isDefEq.respectTransparency.types false in
/-- Call 3 as a step of @main. -/
def reg3 (hout : ∀ c, Vp c main_v5 = (dat3 V c).arrAt 2 cfg3.N) (hne : ∀ c (b : Ref sig .tc), b ≠ main_v5 → Vp c b = V c b) :
    Pipeline.RegionSeg (pcfgs (F := F)) adm (pdats3 adm V) (none : HIx 1) defs₀ Variants.none (K (F := F)).L (K (F := F)).lev 2 where
  win := launch3.win.to₀
  block_pos := launch3.block_pos
  stage_whole := launch3.stage_whole
  K := PEmpty
  osem k := k.elim
  ho := Pipeline.OwnSemFacts.none _
  hbody c := (body3 V c).loose
  hwaits c := Pipeline.cellsWaits_intro _ _ _ _ c fun w s t => (K (F := F)).mayWait_none _ (Otc_none c 1)
  pre c := iprop(unscopedBufs c (V c) ∗ tcOwes (F := F) c 1)
  post c := iprop(unscopedBufs c (Vp c) ∗ tcOwes (F := F) c 1)
  X _ := BI.emp
  Y _ := BI.emp
  Z c := Pipeline.unscopedRest (Ix := HIx 1) (Name := ℕ) (U := UU) (Lvl := ℕ) spec3 c (V c)
  hentry c := by
    rw [Pipeline.ownSems0_none]
    have hsplit := Pipeline.arrays_of_unscopedBufs (p := 2) (pcfgs (F := F)) adm (pdats3 adm V) launch3.win launch3.arr_whole c
      ((pdats3 adm V 2 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats3 adm V 2 c).Φ 0 = Pipeline.scopedRest spec3 c from rfl]
    iintro ⟨-, -, Hr⟩; iexact Hr
  hout c := by
    rw [Pipeline.ownSems0_none, show (pdats3 adm V 2 c).Φ (Fin.last _) = Pipeline.scopedRest spec3 c from rfl]
    iintro Hr
    isplitr; · iempintro
    isplitr; · iempintro
    iexact Hr
  hexit c := by
    have hjoin := Pipeline.unscopedBufs_of_arrays (p := 2) (pcfgs (F := F)) adm (Ix := HIx 1) (Name := ℕ) (U := UU) (Lvl := ℕ) launch3.win launch3.arr_whole c
      (pdats3 adm V) ((pdats3 adm V 2 c).share_full fun _ => rfl) (V c) (Vp c) ((pdats3 adm V 2 c).arrAt · cfg3.N)
      (fun w => by
        fin_cases w
        · exact ((pdats3 adm V 2 c).arrAt_in 0 rfl _).trans (hne c main_v4_0 (by decide)).symm
        · exact ((pdats3 adm V 2 c).arrAt_in 1 rfl _).trans (hne c main_v4_1 (by decide)).symm
        · exact (hout c).symm)
      (fun b hb => hne c b (fun h => hb (h ▸ Finset.mem_image.mpr ⟨2, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Call3

end Cert.Proof

end
-- ==== Proof.Results.lean ====
/-
  What the TensorCore's calls leave in their arrays, as functions of the arrays they read.
-/
module

public import proofs.«01_k».proof.Proof.Regions

@[expose] public section

noncomputable section

namespace Cert.Proof

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open Idealize.ShloMosaic.Pipeline (Dat)

variable {F : FTy → Type} [FloatOps F]

/-- Four consecutive quarters of a feature map's batch axis, eight images each. -/
def quarter {α : Type} (x : S32x4x256x256.Idx → α) (t : Fin 4) : S8x4x256x256.Idx → α := fun y =>
  x (ValueIdx.ix4 ⟨8 * t.val + (y 0).val, by have : (y 0).val < 8 := (y 0).isLt; omega⟩ (y 1) (y 2) (y 3))

/-- The split feature map: quarter after quarter, each in halves. -/
def split (x : S32x4x256x256.Idx → F .f32) : S8388608.Idx → F .f32 := fun j =>
  halves (quarter x ⟨(j 0).val / 2097152, by have h : (j 0).val < 8388608 := (j 0).isLt; omega⟩) (ValueIdx.ix1 ⟨(j 0).val % 2097152, Nat.mod_lt _ (by decide)⟩)

theorem index0_0 : ∀ t : Fin grid0.N, win0_0.index t = ![t.val, 0, 0, 0] := by decide +kernel
theorem index0_1 : ∀ t : Fin grid0.N, win0_1.index t = ![t.val] := by decide +kernel

variable (V : Vals F)

theorem blk0_eq (c : Dev nD) (t : Fin cfg0.N) : blk0 V c t = quarter (V c main_arg1) (Fin.cast N_0 t) := by
  funext y
  unfold blk0 quarter
  rw [View.read_apply]
  refine congrArg (V c main_arg1) ?_
  funext a
  refine Fin.ext ?_
  have e := index0_0 t
  blk_simp [e]
  fin_cases a
  · show t.val * 8 + (y 0).val = 8 * t.val + (y 0).val; omega
  · show 0 * 4 + (y 1).val = (y 1).val; omega
  · show 0 * 256 + (y 2).val = (y 2).val; omega
  · show 0 * 256 + (y 3).val = (y 3).val; omega

/-- Call 0 leaves the split feature map. -/
theorem arr0 (c : Dev nD) : (dat0 V c).arrAt 1 cfg0.N = split (F := F) (V c main_arg1) := by
  refine (dat0 V c).arrAt_eq_of_covers 1 _ (by decide +kernel) fun t hf y => ?_
  blk_simp
  show halves (blk0 V c t) y = _
  rw [blk0_eq]
  have h : (((win0_1.blk t).view.emb y) 0).val = t.val * 2097152 + (y 0).val := by
    have e := index0_1 t
    blk_simp [e]
  have hy : (y 0).val < 2097152 := (y 0).isLt
  unfold split
  refine congr (congrArg halves (congrArg _ (Fin.ext ?_))) ?_
  · show t.val = (((win0_1.blk t).view.emb y) 0).val / 2097152
    rw [h]; omega
  · funext a
    obtain rfl : a = (0 : Fin 1) := Subsingleton.elim (α := Fin 1) _ _
    refine Fin.ext ?_
    show (y 0).val = (((win0_1.blk t).view.emb y) 0).val % 2097152
    rw [h]; omega

/-! Calls 1 and 3 read their arrays whole, and leave theirs whole. -/

theorem ind1_eq (c : Dev nD) : ind1 V c = V c main_arg3 := by
  funext y
  unfold ind1
  rw [View.read_apply]
  refine congrArg (V c main_arg3) ?_
  funext a
  refine Fin.ext ?_
  blk_simp
  exact (congrArg (· + (y a).val) (Nat.zero_mul _)).trans (Nat.zero_add _)

theorem msk1_eq (c : Dev nD) : msk1 V c = V c main_arg2 := by
  funext y
  unfold msk1
  rw [View.read_apply]
  refine congrArg (V c main_arg2) ?_
  funext a
  refine Fin.ext ?_
  blk_simp
  exact (congrArg (· + (y a).val) (Nat.zero_mul _)).trans (Nat.zero_add _)

theorem sum3_eq (c : Dev nD) : sum3 V c = V c main_v4_0 := by
  funext y
  unfold sum3
  rw [View.read_apply]
  refine congrArg (V c main_v4_0) ?_
  funext a
  refine Fin.ext ?_
  blk_simp
  exact (congrArg (· + (y a).val) (Nat.zero_mul _)).trans (Nat.zero_add _)

theorem den3_eq (c : Dev nD) : den3 V c = V c main_v4_1 := by
  funext y
  unfold den3
  rw [View.read_apply]
  refine congrArg (V c main_v4_1) ?_
  funext a
  refine Fin.ext ?_
  blk_simp
  exact (congrArg (· + (y a).val) (Nat.zero_mul _)).trans (Nat.zero_add _)

theorem arr1_2 (c : Dev nD) : (dat1 V c).arrAt 2 cfg1.N = list1 (F := F) (V c main_arg3) := by
  refine (dat1 V c).arrAt_eq_of_after_last 2 t1_0 (by decide +kernel) _ fun j => ?_
  blk_simp
  rw [← ind1_eq V c]
  rfl

theorem arr1_3 (c : Dev nD) : (dat1 V c).arrAt 3 cfg1.N = list2 (F := F) (V c main_arg3) := by
  refine (dat1 V c).arrAt_eq_of_after_last 3 t1_0 (by decide +kernel) _ fun j => ?_
  blk_simp
  rw [← ind1_eq V c]
  rfl

theorem arr1_4 (c : Dev nD) : (dat1 V c).arrAt 4 cfg1.N = list3 := by
  refine (dat1 V c).arrAt_eq_of_after_last 4 t1_0 (by decide +kernel) _ fun j => ?_
  blk_simp
  rfl

theorem arr1_5 (c : Dev nD) : (dat1 V c).arrAt 5 cfg1.N = maskf (F := F) (V c main_arg2) := by
  refine (dat1 V c).arrAt_eq_of_after_last 5 t1_0 (by decide +kernel) _ fun j => ?_
  blk_simp
  rw [← msk1_eq V c]
  rfl

theorem arr3_2 (c : Dev nD) : (dat3 V c).arrAt 2 cfg3.N = quot (V c main_v4_0) (V c main_v4_1) := by
  refine (dat3 V c).arrAt_eq_of_after_last 2 t3_0 (by decide +kernel) _ fun j => ?_
  blk_simp
  rw [← sum3_eq V c, ← den3_eq V c]
  rfl

end Cert.Proof

end
-- ==== Proof.Deal.lean ====
/-
  The SparseCore call's arrays dealt to its tiles: each list, the mask and each result row by row, each table in equal
  shares with one share left over; and gathered again.
-/
module

public import proofs.«01_k».proof.Proof.Launch

@[expose] public section

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- Two resources that entail each other are the same. -/
theorem both {A B : sProp 𝕄} (h : A ⊢ B) (h' : B ⊢ A) : A = B := Entails.antisymm h h'

/-- A 32-row array is its rows. -/
theorem rows32 {n : ℕ} {ℓ : Loc nD τ sig} (h : ℓ.2.ty.shape = ⟨2, ![32, n]⟩) (f : Buf (Elt F) ℓ) (R : Fin 32 → Finset ℓ.2.ty.Idx)
    (hd : ∀ i ∈ (Finset.univ : Finset (Fin 32)), ∀ j ∈ (Finset.univ : Finset (Fin 32)), i ≠ j → Disjoint (R i) (R j))
    (hc : (Finset.univ : Finset (Fin 32)).biUnion R = Finset.univ) :
    (ℓ ↦{fullShare} f : sProp 𝕄) = bigSep Finset.univ fun b : Fin 32 => ℓ ↦[R b]{fullShare} f := by
  rw [← pointsTo_biUnion Finset.univ (ℓ := ℓ) R hd, hc]

/-- A table is one share per tile and what is left. -/
theorem shares32 {ℓ : Loc nD τ sig} (f : Buf (Elt F) ℓ) :
    (ℓ ↦{fullShare} f : sProp 𝕄) = iprop((ℓ ↦{Transfers.shareDrop fullShare 32} f)
      ∗ bigSep Finset.univ fun b : Fin 32 => ℓ ↦{Transfers.shareTokN fullShare b.val} f) :=
  let h := Transfers.pointsTo_toks (ℓ := ℓ) (S := Finset.univ) (f := f) (Ix := HIx 1) (Name := ℕ) (U := UU) (Lvl := ℕ) fullShare 32
  Entails.antisymm h.1 h.2

/-- The tiles, numbered by the rows they work on. -/
def tiles : Fin 2 × Fin 16 ≃ Fin 32 where
  toFun p := wid p.1.val p.2.val p.1.isLt p.2.isLt
  invFun b := (⟨b.val % 2, by omega⟩, ⟨b.val / 2, by omega⟩)
  left_inv p := by
    refine Prod.ext (Fin.ext ?_) (Fin.ext ?_)
    · show (2 * p.2.val + p.1.val) % 2 = p.1.val; omega
    · show (2 * p.2.val + p.1.val) / 2 = p.2.val; omega
  right_inv b := Fin.ext (by show 2 * (b.val / 2) + b.val % 2 = b.val; omega)

theorem over_tiles (Φ : Fin 32 → sProp 𝕄) :
    (bigSep Finset.univ fun c : Fin ((K (F := F)).nCore 0) => bigSep Finset.univ fun i : Fin ((K (F := F)).nSub 0) => Φ (rowC c i))
      = bigSep Finset.univ Φ := by
  show (bigSep Finset.univ fun c : Fin 2 => bigSep Finset.univ fun i : Fin 16 => Φ (wid c.val i.val c.isLt i.isLt)) = _
  rw [bigSep_univ_equiv tiles, bigSep_univ_prod]
  rfl

/-- The call's nine arrays, whole. -/
def whole9 (a : Arr F) (d : Dev nD) (r0 r1 : S32x16.Idx → F .f32) : sProp 𝕄 :=
  iprop((i1Loc d ↦{fullShare} a.i1) ∗ (i2Loc d ↦{fullShare} a.i2) ∗ (i3Loc d ↦{fullShare} a.i3) ∗ (msLoc d ↦{fullShare} a.ms)
    ∗ (f1Loc d ↦{fullShare} a.f1) ∗ (f2Loc d ↦{fullShare} a.f2) ∗ (ttLoc d ↦{fullShare} a.tt)
    ∗ (o0Loc d ↦{fullShare} r0) ∗ (o1Loc d ↦{fullShare} r1))

/-- The tables' left-over shares. -/
def left3 (a : Arr F) (d : Dev nD) : sProp 𝕄 :=
  iprop((f1Loc d ↦{Transfers.shareDrop fullShare 32} a.f1) ∗ (f2Loc d ↦{Transfers.shareDrop fullShare 32} a.f2)
    ∗ (ttLoc d ↦{Transfers.shareDrop fullShare 32} a.tt))

theorem deal (a : Arr F) (d : Dev nD) (r0 r1 : S32x16.Idx → F .f32) :
    whole9 a d r0 r1 = iprop(left3 a d ∗ bigSep Finset.univ fun c : Fin ((K (F := F)).nCore 0) =>
      bigSep Finset.univ fun i : Fin ((K (F := F)).nSub 0) => tileRes a d (rowC c i) r0 r1) := by
  rw [over_tiles (F := F) (fun b => tileRes a d b r0 r1)]
  unfold tileRes whole9 left3
  rw [bigSep_sep', bigSep_sep', bigSep_sep', bigSep_sep', bigSep_sep', bigSep_sep', bigSep_sep', bigSep_sep']
  rw [rows32 (n := 2048) (ℓ := i1Loc d) rfl a.i1 (rowSet 2048) (rowSet_disjoint 2048) (rowSet_cover 2048),
    rows32 (n := 2048) (ℓ := i2Loc d) rfl a.i2 (rowSet 2048) (rowSet_disjoint 2048) (rowSet_cover 2048),
    rows32 (n := 2048) (ℓ := i3Loc d) rfl a.i3 (rowSet 2048) (rowSet_disjoint 2048) (rowSet_cover 2048),
    rows32 (n := 512) (ℓ := msLoc d) rfl a.ms (rowSet 512) (rowSet_disjoint 512) (rowSet_cover 512),
    rows32 (n := 16) (ℓ := o0Loc d) rfl r0 (rowSet 16) (rowSet_disjoint 16) (rowSet_cover 16),
    rows32 (n := 16) (ℓ := o1Loc d) rfl r1 (rowSet 16) (rowSet_disjoint 16) (rowSet_cover 16),
    shares32 (ℓ := f1Loc d) a.f1, shares32 (ℓ := f2Loc d) a.f2, shares32 (ℓ := ttLoc d) a.tt]
  refine both ?_ ?_
  · iintro ⟨H1, H2, H3, H4, ⟨L1, H5⟩, ⟨L2, H6⟩, ⟨L3, H7⟩, H8, H9⟩
    isplitl [L1 L2 L3]
    · isplitl [L1]; · iexact L1
      isplitl [L2]; · iexact L2
      iexact L3
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨⟨L1, L2, L3⟩, H1, H2, H3, H4, H5, H6, H7, H8, H9⟩
    isplitl [H1]; · iexact H1
    isplitl [H2]; · iexact H2
    isplitl [H3]; · iexact H3
    isplitl [H4]; · iexact H4
    isplitl [L1 H5]; · isplitl [L1] <;> iassumption
    isplitl [L2 H6]; · isplitl [L2] <;> iassumption
    isplitl [L3 H7]; · isplitl [L3] <;> iassumption
    isplitl [H8]; · iexact H8
    iexact H9

end Cert.Proof

end
-- ==== Proof.Main.lean ====
/-
  The program's @main on a TensorCore, step by step, and the run of the whole program: its result as a function of its
  arguments, at any float values.
-/
module

public import proofs.«01_k».proof.Proof.TileRun
public import proofs.«01_k».proof.Proof.Results
public import proofs.«01_k».proof.Proof.Deal

@[expose] public section

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)

variable {F : FTy → Type} [FloatOps F]

local notation "𝕄" => MT nD τ sig (HIx 1) (Elt F) ℕ UU ℕ

/-! ## The TensorCore's arrays -/

/-- A TensorCore reference as a buffer of its device. -/
abbrev dr (b : Ref sig .tc) : DevRef τ sig := Proc.devRef .tc b

/-- The TensorCore's unscoped buffers. -/
def ucRefs : Finset (DevRef τ sig) := (StableHlo.tcRefs τ sig).filter fun b => ¬ b.isScoped

omit [FloatOps F] in
theorem unscoped_held (d : Dev nD) (W : Valuation τ sig (Elt F)) :
    (unscopedBufs d (fun b => W (dr b)) : sProp 𝕄) = held (SparseCore.T d) ucRefs W := by
  unfold unscopedBufs held ucRefs StableHlo.tcRefs
  rw [Finset.filter_map, bigSep_map]
  rfl

theorem dr_inj {a b : Ref sig .tc} (h : a ≠ b) : dr a ≠ dr b := fun e => h (Proc.devRef_injective _ e)

theorem mem_ucRefs {b : Ref sig .tc} (h : b.isScoped = false) : dr b ∈ ucRefs :=
  Finset.mem_filter.mpr ⟨StableHlo.devRef_mem_tcRefs b, fun e => Bool.false_ne_true (h.symm.trans e)⟩

theorem pair_sub {a b : Ref sig .tc} (ha : a.isScoped = false) (hb : b.isScoped = false) :
    ({dr a, dr b} : Finset (DevRef τ sig)) ⊆ ucRefs := by
  intro x hx
  rcases Finset.mem_insert.mp hx with rfl | hx
  · exact mem_ucRefs ha
  · rw [Finset.mem_singleton.mp hx]; exact mem_ucRefs hb

/-! ## The contents after every step -/

abbrev opA : HloOp τ sig (Elt F) := StableHlo.reshape main_arg0 main_v0 (rfl : (.f32 : EltTy) = .f32) shapeCasts_S32x4x256x256_S8388608
abbrev opB : HloOp τ sig (Elt F) := StableHlo.reshape main_arg4 main_v3 (rfl : (.f32 : EltTy) = .f32) shapeCasts_S32x500x4_S64000
abbrev opC : HloOp τ sig (Elt F) := StableHlo.reshape main_v5 main_v6 (rfl : (.f32 : EltTy) = .f32) shapeCasts_S1_S_

theorem hopA : (opA (F := F)).bufs ⊆ ucRefs := pair_sub (a := main_arg0) (b := main_v0) rfl rfl
theorem hopB : (opB (F := F)).bufs ⊆ ucRefs := pair_sub (a := main_arg4) (b := main_v3) rfl rfl
theorem hopC : (opC (F := F)).bufs ⊆ ucRefs := pair_sub (a := main_v5) (b := main_v6) rfl rfl

section Steps

variable (W : Valuation τ sig (Elt F))

/-- The second feature map split. -/
def setB : Valuation τ sig (Elt F) := Function.update W (dr main_v1) (split (F := F) (W (dr main_arg1)))

/-- The lists of positions and the mask. -/
def setC : Valuation τ sig (Elt F) :=
  Function.update (Function.update (Function.update (Function.update W (dr main_v2_0) (list1 (F := F) (W (dr main_arg3))))
    (dr main_v2_1) (list2 (F := F) (W (dr main_arg3)))) (dr main_v2_2) list3) (dr main_v2_3) (maskf (F := F) (W (dr main_arg2)))

/-- The SparseCore call's arrays, its results at what they held before. -/
def arrOf : Arr F where
  f1 := W (dr main_v0)
  f2 := W (dr main_v1)
  tt := W (dr main_v3)
  i1 := W (dr main_v2_0)
  i2 := W (dr main_v2_1)
  i3 := W (dr main_v2_2)
  ms := W (dr main_v2_3)
  o0 := W (dr main_v4_0)
  o1 := W (dr main_v4_1)

/-- The SparseCore call's results. -/
def setE : Valuation τ sig (Elt F) :=
  Function.update (Function.update W (dr main_v4_0) (arrOf W).r0) (dr main_v4_1) (arrOf W).r1

/-- The quotient. -/
def setF : Valuation τ sig (Elt F) := Function.update W (dr main_v5) (quot (W (dr main_v4_0)) (W (dr main_v4_1)))

theorem setB_out : setB W (dr main_v1) = split (F := F) (W (dr main_arg1)) := Function.update_self ..
theorem setB_ne {b : Ref sig .tc} (h : b ≠ main_v1) : setB W (dr b) = W (dr b) := Function.update_of_ne (dr_inj h) ..

theorem setC_0 : setC W (dr main_v2_0) = list1 (F := F) (W (dr main_arg3)) := by
  unfold setC
  rw [Function.update_of_ne (dr_inj (by decide)), Function.update_of_ne (dr_inj (by decide)), Function.update_of_ne (dr_inj (by decide)), Function.update_self]
theorem setC_1 : setC W (dr main_v2_1) = list2 (F := F) (W (dr main_arg3)) := by
  unfold setC
  rw [Function.update_of_ne (dr_inj (by decide)), Function.update_of_ne (dr_inj (by decide)), Function.update_self]
theorem setC_2 : setC W (dr main_v2_2) = list3 := by
  unfold setC
  rw [Function.update_of_ne (dr_inj (by decide)), Function.update_self]
theorem setC_3 : setC W (dr main_v2_3) = maskf (F := F) (W (dr main_arg2)) := Function.update_self ..
theorem setC_ne {b : Ref sig .tc} (h0 : b ≠ main_v2_0) (h1 : b ≠ main_v2_1) (h2 : b ≠ main_v2_2) (h3 : b ≠ main_v2_3) :
    setC W (dr b) = W (dr b) := by
  unfold setC
  rw [Function.update_of_ne (dr_inj h3), Function.update_of_ne (dr_inj h2), Function.update_of_ne (dr_inj h1), Function.update_of_ne (dr_inj h0)]

theorem setE_0 : setE W (dr main_v4_0) = (arrOf W).r0 := by
  unfold setE
  rw [Function.update_of_ne (dr_inj (by decide)), Function.update_self]
theorem setE_1 : setE W (dr main_v4_1) = (arrOf W).r1 := Function.update_self ..
theorem setE_ne {b : Ref sig .tc} (h0 : b ≠ main_v4_0) (h1 : b ≠ main_v4_1) : setE W (dr b) = W (dr b) := by
  unfold setE
  rw [Function.update_of_ne (dr_inj h1), Function.update_of_ne (dr_inj h0)]

theorem setF_out : setF W (dr main_v5) = quot (W (dr main_v4_0)) (W (dr main_v4_1)) := Function.update_self ..
theorem setF_ne {b : Ref sig .tc} (h : b ≠ main_v5) : setF W (dr b) = W (dr b) := Function.update_of_ne (dr_inj h) ..

end Steps

/-! ## The SparseCore call's arrays among the TensorCore's -/

/-- The nine arrays of the SparseCore call. -/
def nine : Finset (DevRef τ sig) :=
  {dr main_v2_0, dr main_v2_1, dr main_v2_2, dr main_v2_3, dr main_v0, dr main_v1, dr main_v3, dr main_v4_0, dr main_v4_1}

theorem nine_sub : nine ⊆ ucRefs := by
  intro x hx
  simp only [nine, Finset.mem_insert, Finset.mem_singleton] at hx
  rcases hx with rfl | rfl | rfl | rfl | rfl | rfl | rfl | rfl | rfl <;> exact mem_ucRefs rfl

theorem held_nine (d : Dev nD) (W W' : Valuation τ sig (Elt F))
    (h : ∀ b : Ref sig .tc, b ≠ main_v4_0 → b ≠ main_v4_1 → W' (dr b) = W (dr b)) :
    (held (SparseCore.T d) nine W' : sProp 𝕄) = whole9 (arrOf W) d (W' (dr main_v4_0)) (W' (dr main_v4_1)) := by
  unfold held nine whole9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rw [h main_v2_0 (by decide) (by decide), h main_v2_1 (by decide) (by decide), h main_v2_2 (by decide) (by decide),
    h main_v2_3 (by decide) (by decide), h main_v0 (by decide) (by decide), h main_v1 (by decide) (by decide), h main_v3 (by decide) (by decide)]
  rfl

theorem held_rest (d : Dev nD) (W : Valuation τ sig (Elt F)) :
    (held (SparseCore.T d) (ucRefs \ nine) (setE W) : sProp 𝕄) = held (SparseCore.T d) (ucRefs \ nine) W :=
  held_congr (SparseCore.T d) fun b hb => by
    have hn := (Finset.mem_sdiff.mp hb).2
    unfold setE
    rw [Function.update_of_ne (fun e => hn (by rw [e]; simp [nine])), Function.update_of_ne (fun e => hn (by rw [e]; simp [nine]))]

/-! ## What the TensorCore owes, out of its state and back -/

theorem tcSt_open (d : Dev nD) (n : ℕ) :
    ((K (F := F)).tcSt EH d n : sProp 𝕄) ⊢ iprop(tcOwes (F := F) d n ∗ (tcOwes (F := F) d n -∗ (K (F := F)).tcSt EH d n)) := by
  unfold SparseCore.Cfg.tcSt
  iintro ⟨HO, Hr⟩
  isplitl [HO]; · iexact HO
  iintro HO
  isplitl [HO]; · iexact HO
  iexact Hr

/-! ## The TensorCore calls as steps -/

abbrev adm : (p : Fin 3) → (pcfgs (F := F) p).Adm := fun p => (cfgs p).toPCfg_adm

/-- Pipeline `p`'s ghost state on device `d`. -/
abbrev ghost (d : Dev nD) (p : Fin 3) : sProp 𝕄 :=
  iprop(Pipeline.cellsGhost (Pipeline.pin (pcfgs (F := F)) adm) EP p d ∗ Pipeline.toksInit (Pipeline.pin (pcfgs (F := F)) adm) EP p d)

theorem call_lift {p : Fin 3} {pdats : (p : Fin 3) → (c : Dev nD) → Pipeline.Dat τ (Elt F) (HIx 1) ℕ UU ℕ (Pipeline.pin (pcfgs (F := F)) adm p) c}
    (R : Pipeline.RegionSeg (pcfgs (F := F)) adm pdats (none : HIx 1) defs₀ 𝒱₀ (K (F := F)).L (K (F := F)).lev p) (d : Dev nD)
    (Q : PUnit → sProp 𝕄) :
    iprop((iprop(boundary (SparseCore.T d : Thread nD τ) ∗ R.post d) -∗ Q ⟨⟩) ∗ boundary (SparseCore.T d : Thread nD τ) ∗ R.pre d
        ∗ levAts (K (F := F)).L (K (F := F)).lev ∗ ghost (F := F) d p)
      ⊢ wp frame (wpE ((K (F := F)).defs (D (F := F))) 𝒱 (SparseCore.T d) none) Set.univ
          (SparseCore.liftProg (Prog.lift (.customCall (Pipeline.entry p) ()))) Q := by
  iintro ⟨Hk, Hb, Hpre, Hlev, Hg, Ht⟩
  iapply ((K (F := F)).wp_liftProg (D (F := F)) 𝒱 (SparseCore.T d) Set.univ none (Prog.lift (.customCall (Pipeline.entry p) ())) Q)
  iapply (Pipeline.RegionSeg.wp (pcfgs (F := F)) adm pdats (none : HIx 1) cellOf_inj EP defs₀ 𝒱₀ (K (F := F)).L (K (F := F)).lev R d none
    (fun _ h => nomatch h) .ret Q)
  isplitl [Hk]
  · iintro H
    rw [wp_ret]
    imodintro
    iapply Hk; iexact H
  isplitl [Hb]; · iexact Hb
  isplitl [Hpre]; · iexact Hpre
  isplitl [Hlev]; · iexact Hlev
  isplitl [Hg] <;> iassumption

/-- A TensorCore call of @main: from the boundary, the step's state, the level facts and its pipeline's ghost state. -/
theorem call_step {p : Fin 3} {pdats : (p : Fin 3) → (c : Dev nD) → Pipeline.Dat τ (Elt F) (HIx 1) ℕ UU ℕ (Pipeline.pin (pcfgs (F := F)) adm p) c}
    (R : Pipeline.RegionSeg (pcfgs (F := F)) adm pdats (none : HIx 1) defs₀ 𝒱₀ (K (F := F)).L (K (F := F)).lev p) (d : Dev nD)
    (Q : PUnit → sProp 𝕄) :
    iprop((iprop(boundary (SparseCore.T d : Thread nD τ) ∗ R.post d) -∗ Q ⟨⟩) ∗ boundary (SparseCore.T d : Thread nD τ) ∗ R.pre d
        ∗ levAts (K (F := F)).L (K (F := F)).lev ∗ ghost (F := F) d p)
      ⊢ wp frame (wpE ((K (F := F)).defs (D (F := F))) 𝒱 (SparseCore.T d) none) Set.univ
          (Prog.lift (.customCall (SparseCore.inner (Pipeline.entry p)) ())) Q :=
  call_lift R d Q

end Cert.Proof

end
-- ==== Proof.Whole.lean ====
/-
  The run of the whole program, at any float values: @main's seven steps chained on every TensorCore, and the launch.
-/
module

public import proofs.«01_k».proof.Proof.Main

@[expose] public section

noncomputable section

namespace Cert.Proof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents after every step of @main -/

def W0 (d : Dev nD) : Valuation τ sig (Elt F) := fun b => m (d, b)
def W1 (d : Dev nD) : Valuation τ sig (Elt F) := (opA (F := F)).result (W0 m d)
def W2 (d : Dev nD) : Valuation τ sig (Elt F) := setB (W1 m d)
def W3 (d : Dev nD) : Valuation τ sig (Elt F) := setC (W2 m d)
def W4 (d : Dev nD) : Valuation τ sig (Elt F) := (opB (F := F)).result (W3 m d)
def W5 (d : Dev nD) : Valuation τ sig (Elt F) := setE (W4 m d)
def W6 (d : Dev nD) : Valuation τ sig (Elt F) := setF (W5 m d)
def W7 (d : Dev nD) : Valuation τ sig (Elt F) := (opC (F := F)).result (W6 m d)

/-- The SparseCore call's arrays on every device. -/
def arrs (d : Dev nD) : Arr F := arrOf (W4 m d)

/-! ## The launch element of the ghost state -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem bigSep_none {I : Type} (s : Finset I) : (bigSep s fun _ => iprop(emp)) = (iprop(emp) : sProp 𝕄) := bigSep_emp_const s

theorem hu₀ (a : Dev nD → Arr F) : (ownU (u₀ (F := F)) : sProp 𝕄)
    ⊢ |={Set.univ}=> iprop(BI.own (EH (initOf (K (F := F)).hsCells (K (F := F)).hsToks))
        ∗ (bigSep Finset.univ fun d : Dev nD => bigSep Finset.univ fun p : Fin 3 => ghost (F := F) d p)
        ∗ bigSep Finset.univ fun thr : Thread nD τ => bigSep Finset.univ fun q : Fin 1 => (P a).x q thr) := by
  unfold u₀
  iintro Hu
  ihave H := (ownU_pair (initOf (K (F := F)).hsCells (K (F := F)).hsToks) _) $$ Hu
  icases H with ⟨HH, HR⟩
  ihave H := (own_pair_emb embR _ (1 : Counters)) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · simp only [bigSep_sep']
    isplitl [Hg] <;> iassumption
  rw [show (bigSep Finset.univ fun thr : Thread nD τ => bigSep Finset.univ fun q : Fin 1 => (P (F := F) a).x q thr) = bigSep Finset.univ fun _ => iprop(emp) from
    bigSep_congr fun _ _ => bigSep_univ_of_subsingleton (0 : Fin 1), bigSep_none]
  iempintro

/-! ## @main on a TensorCore -/

/-- The three TensorCore calls on this run's contents. -/
abbrev step0 := reg0 (F := F) adm (fun c b => W1 m c (dr b)) (fun c b => W2 m c (dr b))
  (fun c => (setB_out (W1 m c)).trans (arr0 (fun c b => W1 m c (dr b)) c).symm) (fun c b h => setB_ne (W1 m c) h)
abbrev step1 := reg1 (F := F) adm (fun c b => W2 m c (dr b)) (fun c b => W3 m c (dr b))
  (fun c => (setC_0 (W2 m c)).trans (arr1_2 (fun c b => W2 m c (dr b)) c).symm)
  (fun c => (setC_1 (W2 m c)).trans (arr1_3 (fun c b => W2 m c (dr b)) c).symm)
  (fun c => (setC_2 (W2 m c)).trans (arr1_4 (fun c b => W2 m c (dr b)) c).symm)
  (fun c => (setC_3 (W2 m c)).trans (arr1_5 (fun c b => W2 m c (dr b)) c).symm)
  (fun c b h0 h1 h2 h3 => setC_ne (W2 m c) h0 h1 h2 h3)
abbrev step3 := reg3 (F := F) adm (fun c b => W5 m c (dr b)) (fun c b => W6 m c (dr b))
  (fun c => (setF_out (W5 m c)).trans (arr3_2 (fun c b => W5 m c (dr b)) c).symm) (fun c b h => setF_ne (W5 m c) h)

theorem step0_pre (d : Dev nD) : (step0 m).pre d = iprop(unscopedBufs d (fun b => W1 m d (dr b)) ∗ tcOwes (F := F) d 0) := rfl
theorem step0_post (d : Dev nD) : (step0 m).post d = iprop(unscopedBufs d (fun b => W2 m d (dr b)) ∗ tcOwes (F := F) d 0) := rfl

theorem step1_pre (d : Dev nD) : (step1 m).pre d = iprop(unscopedBufs d (fun b => W2 m d (dr b)) ∗ tcOwes (F := F) d 0) := rfl
theorem step1_post (d : Dev nD) : (step1 m).post d = iprop(unscopedBufs d (fun b => W3 m d (dr b)) ∗ tcOwes (F := F) d 0) := rfl

theorem step3_pre (d : Dev nD) : (step3 m).pre d = iprop(unscopedBufs d (fun b => W5 m d (dr b)) ∗ tcOwes (F := F) d 1) := rfl
theorem step3_post (d : Dev nD) : (step3 m).post d = iprop(unscopedBufs d (fun b => W6 m d (dr b)) ∗ tcOwes (F := F) d 1) := rfl

/-- What @main leaves: every array at its last contents. -/
abbrev FIN (d : Dev nD) : sProp 𝕄 := held (SparseCore.T d) ucRefs (W7 m d)

theorem nine_after (d : Dev nD) :
    (held (SparseCore.T d) nine (W5 m d) : sProp 𝕄) = whole9 (arrs m d) d (arrs m d).r0 (arrs m d).r1 :=
  (held_nine d (W4 m d) (W5 m d) fun _ h0 h1 => setE_ne _ h0 h1).trans
    (congrArg₂ (whole9 (arrOf (W4 m d)) d) (setE_0 (W4 m d)) (setE_1 (W4 m d)))

theorem rest_after (d : Dev nD) :
    (held (SparseCore.T d) (ucRefs \ nine) (W5 m d) : sProp 𝕄) = held (SparseCore.T d) (ucRefs \ nine) (W4 m d) :=
  held_rest d (W4 m d)

theorem hmain (κ : GSem nD τ sig → ℕ) (d : Dev nD) :
    iprop((K (F := F)).ctx EH (P (arrs m)) κ ∗ (K (F := F)).tcSt EH d 0 ∗ (K (F := F)).tcRes m ρ d
        ∗ bigSep Finset.univ fun p : Fin 3 => ghost (F := F) d p)
      ⊢ wp frame (wpE ((K (F := F)).defs (D (F := F))) 𝒱 (SparseCore.T d) none) Set.univ (main d)
          fun _ => iprop((K (F := F)).tcSt EH d 1 ∗ FIN m d ∗ (K (F := F)).tcEnd d) := by
  rw [show (Finset.univ : Finset (Fin 3)) = {0, 1, 2} from rfl, SparseCore.bigSep_insert' (by decide), SparseCore.bigSep_insert' (by decide), bigSep_singleton]
  unfold SparseCore.Cfg.tcRes SparseCore.Cfg.tcEnd
  rw [show (unscopedBufs d (fun b => m ((SparseCore.T d).loc b)) : sProp 𝕄) = held (SparseCore.T d) ucRefs (W0 m d) from unscoped_held d (W0 m d)]
  simp only [main, wp_bind, wp_pure]
  iintro ⟨#Hctx, Hst, ⟨Hb, Hub, Hts, -⟩, ⟨G0, G1, G2⟩⟩
  -- the first feature map flattened
  iapply (wp_hlo_within 𝒱 (SparseCore.T d) none Set.univ (op := opA (F := F)) (S := ucRefs) hopA (V := W0 m d)) $$ [Hb Hub]
  · isplitl [Hb] <;> iassumption
  iintro ⟨Hb, Hub⟩
  rw [wp_ret]; imodintro
  ihave H := (tcSt_open d 0) $$ Hst
  icases H with ⟨HO, Hst⟩
  -- the second feature map split
  iapply (call_step (step0 m) d)
  rw [step0_pre, step0_post]
  isplitl [Hst Hts G1 G2]
  rotate_left
  · isplitl [Hb]; · iexact Hb
    isplitl [Hub HO]
    · isplitl [Hub]
      · iapply (Entails.of_eq (unscoped_held d (W1 m d)).symm); iexact Hub
      iexact HO
    isplitr; · iapply ((K (F := F)).ctx_levAts κ); iexact Hctx
    iexact G0
  iintro ⟨Hb, Hub, HO⟩
  -- the lists and the mask
  iapply (call_step (step1 m) d)
  rw [step1_pre, step1_post]
  isplitl [Hst Hts G2]
  rotate_left
  · isplitl [Hb]; · iexact Hb
    isplitl [Hub HO]
    · isplitl [Hub]; · iexact Hub
      iexact HO
    isplitr; · iapply ((K (F := F)).ctx_levAts κ); iexact Hctx
    iexact G1
  iintro ⟨Hb, Hub, HO⟩
  ihave Hst := Hst $$ HO
  ihave Hub := (Entails.of_eq (unscoped_held d (W3 m d))) $$ Hub
  -- the targets flattened
  iapply (wp_hlo_within 𝒱 (SparseCore.T d) none Set.univ (op := opB (F := F)) (S := ucRefs) hopB (V := W3 m d)) $$ [Hb Hub]
  · isplitl [Hb] <;> iassumption
  iintro ⟨Hb, Hub⟩
  rw [wp_ret]; imodintro
  -- the SparseCore call
  rw [show (opB (F := F)).result (W3 m d) = W4 m d from rfl]
  ihave H := (Entails.of_eq (held_sub_split (SparseCore.T d) nine_sub (W4 m d))) $$ Hub
  icases H with ⟨H9, Hrest⟩
  ihave H := (Entails.of_eq ((held_nine d (W4 m d) (W4 m d) fun _ _ _ => rfl).trans (deal (arrs m d) d (arrs m d).o0 (arrs m d).o1))) $$ H9
  icases H with ⟨Hleft, Hd⟩
  iapply ((K (F := F)).wp_run (D (F := F)) 𝒱 (EH := EH) (P := P (arrs m)) κ d 0)
  isplitr; · iexact Hctx
  isplitl [Hst]; · iexact Hst
  isplitl [Hd]; · iexact Hd
  iintro ⟨Hst, Hd⟩
  ihave H9 := (Entails.of_eq (deal (arrs m d) d (arrs m d).r0 (arrs m d).r1).symm) $$ [Hleft Hd]
  · isplitl [Hleft]; · iexact Hleft
    iexact Hd
  ihave H9 := (Entails.of_eq (nine_after m d).symm) $$ H9
  ihave Hrest := (Entails.of_eq (rest_after m d).symm) $$ Hrest
  ihave Hub := (Entails.of_eq (held_sub_split (SparseCore.T d) nine_sub (W5 m d)).symm) $$ [H9 Hrest]
  · isplitl [H9]; · iexact H9
    iexact Hrest
  rw [show ((0 : Fin 1) : ℕ) + 1 = 1 from rfl]
  ihave H := (tcSt_open d 1) $$ Hst
  icases H with ⟨HO, Hst⟩
  -- the quotient
  iapply (call_step (step3 m) d)
  rw [step3_pre, step3_post]
  isplitl [Hst Hts]
  rotate_left
  · isplitl [Hb]; · iexact Hb
    isplitl [Hub HO]
    · isplitl [Hub]
      · iapply (Entails.of_eq (unscoped_held d (W5 m d)).symm); iexact Hub
      iexact HO
    isplitr; · iapply ((K (F := F)).ctx_levAts κ); iexact Hctx
    iexact G2
  iintro ⟨Hb, Hub, HO⟩
  ihave Hst := Hst $$ HO
  ihave Hub := (Entails.of_eq (unscoped_held d (W6 m d))) $$ Hub
  -- the result as a scalar
  iapply (wp_hlo_within 𝒱 (SparseCore.T d) none Set.univ (op := opC (F := F)) (S := ucRefs) hopC (V := W6 m d)) $$ [Hb Hub]
  · isplitl [Hb] <;> iassumption
  iintro ⟨Hb, Hub⟩
  rw [wp_ret]; imodintro
  imodintro
  rw [show (opC (F := F)).result (W6 m d) = W7 m d from rfl]
  isplitl [Hst]; · iexact Hst
  isplitl [Hub]; · iexact Hub
  isplitl [Hb] <;> iassumption

/-! ## What a final state says -/

theorem held_agree (d : Dev nD) (W : Valuation τ sig (Elt F)) {b : Ref sig .tc} (hb : b.isScoped = false) (s' : Phys nD τ sig (Elt F)) :
    iprop(held (SparseCore.T d) ucRefs W ∗ SI s') ⊢ (⌜s'.mem.mem (d, dr b) = W (dr b)⌝ : sProp 𝕄) := by
  rw [held_sub_split (SparseCore.T d) (Finset.singleton_subset_iff.mpr (mem_ucRefs hb)) W]
  unfold held
  rw [bigSep_singleton]
  iintro ⟨⟨Hb, -⟩, HSI⟩
  ihave H := (SI_pointsTo_agree (st := s') (ℓ := ((d, dr b) : Loc nD τ sig)) (I := Finset.univ) (q := fullShare) (f := W (dr b))) $$ [HSI Hb]
  · isplitl [HSI] <;> iassumption
  icases H with %h
  ipureintro; exact funext fun i => h i (Finset.mem_univ i)

def fq (d : Dev nD) (s' : Phys nD τ sig (Elt F)) : Prop :=
  s'.mem.mem (d, dr main_arg0) = W7 m d (dr main_arg0) ∧ s'.mem.mem (d, dr main_arg1) = W7 m d (dr main_arg1)
    ∧ s'.mem.mem (d, dr main_arg2) = W7 m d (dr main_arg2) ∧ s'.mem.mem (d, dr main_arg3) = W7 m d (dr main_arg3)
    ∧ s'.mem.mem (d, dr main_arg4) = W7 m d (dr main_arg4) ∧ s'.mem.mem (d, dr main_v6) = W7 m d (dr main_v6)

theorem hfin (d : Dev nD) (s' : Phys nD τ sig (Elt F)) : iprop(FIN m d ∗ SI s') ⊢ (⌜fq m d s'⌝ : sProp 𝕄) := by
  iintro H
  ihave H := (persistent_entails_right (held_agree d (W7 m d) (b := main_arg0) rfl s')) $$ H
  icases H with ⟨%h0, H⟩
  ihave H := (persistent_entails_right (held_agree d (W7 m d) (b := main_arg1) rfl s')) $$ H
  icases H with ⟨%h1, H⟩
  ihave H := (persistent_entails_right (held_agree d (W7 m d) (b := main_arg2) rfl s')) $$ H
  icases H with ⟨%h2, H⟩
  ihave H := (persistent_entails_right (held_agree d (W7 m d) (b := main_arg3) rfl s')) $$ H
  icases H with ⟨%h3, H⟩
  ihave H := (persistent_entails_right (held_agree d (W7 m d) (b := main_arg4) rfl s')) $$ H
  icases H with ⟨%h4, H⟩
  ihave H := (held_agree d (W7 m d) (b := main_v6) rfl s') $$ H
  icases H with %h5
  ipureintro; exact ⟨h0, h1, h2, h3, h4, h5⟩

/-! ## The run -/

theorem W7_arg {b : Ref sig .tc} (d : Dev nD) (h : b ∉ ([main_v0, main_v1, main_v2_0, main_v2_1, main_v2_2, main_v2_3, main_v3, main_v4_0, main_v4_1, main_v5, main_v6] : List (Ref sig .tc))) :
    W7 m d (dr b) = m (d, dr b) := by
  simp only [List.mem_cons, List.not_mem_nil, or_false, not_or] at h
  obtain ⟨h0, h1, h20, h21, h22, h23, h3, h40, h41, h5, h6⟩ := h
  unfold W7 W6 W5 W4 W3 W2 W1
  rw [StableHlo.reshape_result_ne (h := h6), setF_ne _ h5, setE_ne _ h40 h41, StableHlo.reshape_result_ne (h := h3),
    setC_ne _ h20 h21 h22 h23, setB_ne _ h1, StableHlo.reshape_result_ne (h := h0)]
  rfl

/-- The arguments of device `d`. -/
abbrev a0 (d : Dev nD) : S32x4x256x256.Idx → F .f32 := m ((SparseCore.T d).loc main_arg0)
abbrev a1 (d : Dev nD) : S32x4x256x256.Idx → F .f32 := m ((SparseCore.T d).loc main_arg1)
abbrev a2 (d : Dev nD) : S32x500.Idx → BitVec 32 := m ((SparseCore.T d).loc main_arg2)
abbrev a3 (d : Dev nD) : S32x500.Idx → BitVec 32 := m ((SparseCore.T d).loc main_arg3)
abbrev a4 (d : Dev nD) : S32x500x4.Idx → F .f32 := m ((SparseCore.T d).loc main_arg4)

/-- The SparseCore call's arrays, from the arguments (the results' first contents left out of account). -/
def argArr (x0 x1 : S32x4x256x256.Idx → F .f32) (mk ind : S32x500.Idx → BitVec 32) (x4 : S32x500x4.Idx → F .f32) (o0 o1 : S32x16.Idx → F .f32) : Arr F where
  f1 := shapeCast S8388608 x0 shapeCasts_S32x4x256x256_S8388608
  f2 := split (F := F) x1
  tt := shapeCast S64000 x4 shapeCasts_S32x500x4_S64000
  i1 := list1 (F := F) ind
  i2 := list2 (F := F) ind
  i3 := list3
  ms := maskf (F := F) mk
  o0 := o0
  o1 := o1

theorem W1_ne {b : Ref sig .tc} (d : Dev nD) (h : b ≠ main_v0) : W1 m d (dr b) = m (d, dr b) := by
  unfold W1; rw [StableHlo.reshape_result_ne (h := h)]; rfl
theorem W1_v0 (d : Dev nD) : W1 m d (dr main_v0) = shapeCast S8388608 (a0 m d) shapeCasts_S32x4x256x256_S8388608 := by
  unfold W1; rw [StableHlo.reshape_result]; rfl

theorem arrs_eq (d : Dev nD) : arrs m d = argArr (a0 m d) (a1 m d) (a2 m d) (a3 m d) (a4 m d) (W4 m d (dr main_v4_0)) (W4 m d (dr main_v4_1)) := by
  have hB {b : Ref sig .tc} (h : b ≠ main_v3) : W4 m d (dr b) = W3 m d (dr b) := by
    unfold W4; rw [StableHlo.reshape_result_ne (h := h)]
  have hC {b : Ref sig .tc} (h0 : b ≠ main_v2_0) (h1 : b ≠ main_v2_1) (h2 : b ≠ main_v2_2) (h3 : b ≠ main_v2_3) : W3 m d (dr b) = W2 m d (dr b) :=
    setC_ne _ h0 h1 h2 h3
  have hA {b : Ref sig .tc} (h : b ≠ main_v1) : W2 m d (dr b) = W1 m d (dr b) := setB_ne _ h
  have e0 : W4 m d (dr main_v0) = shapeCast S8388608 (a0 m d) shapeCasts_S32x4x256x256_S8388608 := by
    rw [hB (by decide), hC (by decide) (by decide) (by decide) (by decide), hA (by decide), W1_v0]
  have e1 : W4 m d (dr main_v1) = split (F := F) (a1 m d) := by
    rw [hB (by decide), hC (by decide) (by decide) (by decide) (by decide)]
    exact (setB_out _).trans (congrArg (split (F := F)) (W1_ne m d (by decide)))
  have e3 : W4 m d (dr main_v3) = shapeCast S64000 (a4 m d) shapeCasts_S32x500x4_S64000 := by
    unfold W4
    rw [StableHlo.reshape_result]
    rw [hC (by decide) (by decide) (by decide) (by decide), hA (by decide), W1_ne m d (by decide)]
    rfl
  have hi : W2 m d (dr main_arg3) = a3 m d := (hA (by decide)).trans (W1_ne m d (by decide))
  have hk : W2 m d (dr main_arg2) = a2 m d := (hA (by decide)).trans (W1_ne m d (by decide))
  have e20 : W4 m d (dr main_v2_0) = list1 (F := F) (a3 m d) := by
    rw [hB (by decide)]; exact (setC_0 _).trans (congrArg (list1 (F := F)) hi)
  have e21 : W4 m d (dr main_v2_1) = list2 (F := F) (a3 m d) := by
    rw [hB (by decide)]; exact (setC_1 _).trans (congrArg (list2 (F := F)) hi)
  have e22 : W4 m d (dr main_v2_2) = list3 := by
    rw [hB (by decide)]; exact setC_2 _
  have e23 : W4 m d (dr main_v2_3) = maskf (F := F) (a2 m d) := by
    rw [hB (by decide)]; exact (setC_3 _).trans (congrArg (maskf (F := F)) hk)
  unfold arrs arrOf argArr
  rw [e0, e1, e3, e20, e21, e22, e23]

theorem W7_v6 (d : Dev nD) : W7 m d (dr main_v6) = shapeCast S_ (quot (arrs m d).r0 (arrs m d).r1) shapeCasts_S1_S_ := by
  unfold W7
  rw [StableHlo.reshape_result]
  rw [show W6 m d (dr main_v5) = quot (arrs m d).r0 (arrs m d).r1 from
    (setF_out _).trans (congrArg₂ quot (setE_0 _) (setE_1 _))]
  rfl

/-- What the run leaves. -/
def Post (r : PUnit × MemSt nD τ sig (Elt F)) : Prop :=
  (∀ d : Dev nD,
    r.2.mem ((SparseCore.T d).loc main_v6) = shapeCast S_ (quot (arrs m d).r0 (arrs m d).r1) shapeCasts_S1_S_
      ∧ r.2.mem ((SparseCore.T d).loc main_arg0) = m ((SparseCore.T d).loc main_arg0)
      ∧ r.2.mem ((SparseCore.T d).loc main_arg1) = m ((SparseCore.T d).loc main_arg1)
      ∧ r.2.mem ((SparseCore.T d).loc main_arg2) = m ((SparseCore.T d).loc main_arg2)
      ∧ r.2.mem ((SparseCore.T d).loc main_arg3) = m ((SparseCore.T d).loc main_arg3)
      ∧ r.2.mem ((SparseCore.T d).loc main_arg4) = m ((SparseCore.T d).loc main_arg4))
    ∧ r.2.sem = fun _ => 0

theorem run_main [∀ e, Nonempty (Elt F e)] (hin : ∀ d, (arrs m d).InRange) :
    θ_run (Cert.KernelIdeal.defs (F := F)) (Cert.KernelIdeal.threads (F := F)) ⟨m, fun _ => 0, ρ⟩ (Post m) :=
  SparseCore.Cfg.θ_run_sc_quiescent (K := K (F := F)) (D := D (F := F)) (𝒱 := 𝒱) (EH := EH) (P := P (arrs m)) (A := ∅) facts v₀
    (fun q hq => match q with | 0 => nomatch hq)
    (fun q _ => match q with | 0 => tileObl (arrs m) facts hin)
    (fun q _ => match q with | 0 => SparseCore.Cfg.VecSplit.of_plain (vecSplit (arrs m)))
    m ρ main (fun d => bigSep Finset.univ fun p : Fin 3 => ghost (F := F) d p) (FIN m) (u₀ (F := F)) (sep_elim_left.trans (hu₀ (arrs m)))
    (hmain m ρ) (fq m) (hfin m) (Post m)
    (fun s' h hz => ⟨fun d => ⟨(h d).2.2.2.2.2.trans (W7_v6 m d), (h d).1.trans (W7_arg m d (by decide)), (h d).2.1.trans (W7_arg m d (by decide)),
      (h d).2.2.1.trans (W7_arg m d (by decide)), (h d).2.2.2.1.trans (W7_arg m d (by decide)), (h d).2.2.2.2.1.trans (W7_arg m d (by decide))⟩, hz⟩)

end Cert.Proof

end
-- ==== Proof.Lists.lean ====
/-
  The three position lists as numbers: for row `b`, channel `c` and slot `k`, column `512 c + k` of a list holds the
  position in a flat table of the value wanted there; slots from 500 on are padding and point at index 0.
-/
module

public import proofs.«01_k».proof.Proof.Bodies
public import Idealize.ShloMosaic.Lib.Pointwise

@[expose] public section

noncomputable section

namespace Cert.Proof

open Cert.KernelIdeal Cert.KernelIdeal.Gen
open Idealize.ShloMosaic

variable {F : FTy → Type} [FloatOps F]

/-- The index of slot `k` of row `b`, 0 on padding. -/
def vAt (ind : S32x500.Idx → BitVec 32) (b : Fin 32) (k : Fin 512) : BitVec 32 :=
  if h : k.val < 500 then ind (ValueIdx.ix2 b ⟨k.val, h⟩) else 0#32

theorem ofBool_one (p : Bool) : (BitVec.ofBool p = 1#1) ↔ p = true := by cases p <;> decide

theorem iota0 (b : Fin 32) (k : Fin 512) : iota .tc S32x512 32 [0] iota_S32x512_d0_w32 (ValueIdx.ix2 b k) = BitVec.ofNat 32 b.val := by
  show BitVec.ofNat 32 (0 * 32 + b.val) = _
  rw [Nat.zero_mul, Nat.zero_add]
theorem iota1 (b : Fin 32) (k : Fin 512) : iota .tc S32x512 32 [1] iota_S32x512_d1_w32 (ValueIdx.ix2 b k) = BitVec.ofNat 32 k.val := by
  show BitVec.ofNat 32 (0 * 512 + k.val) = _
  rw [Nat.zero_mul, Nat.zero_add]

theorem valid_apply (b : Fin 32) (k : Fin 512) : k1_pay4 (ValueIdx.ix2 b k) = BitVec.ofBool (decide (k.val < 500)) := by
  show IntOp.cmpi .slt (iota .tc S32x512 32 [1] iota_S32x512_d1_w32 (ValueIdx.ix2 b k)) 500#32 = _
  rw [iota1]
  have hk := k.isLt
  refine congrArg BitVec.ofBool (Bool.eq_iff_iff.mpr ?_)
  rw [BitVec.slt_eq_decide, decide_eq_true_eq, decide_eq_true_eq, BitVec.toInt_eq_toNat_cond, BitVec.toInt_eq_toNat_cond]
  simp only [BitVec.toNat_ofNat, Nat.reducePow, Nat.reduceMod]
  omega

/-- Joining twelve zero columns to a 500-column array and keeping the slots below 500. -/
theorem padded (x : S32x500.Idx → BitVec 32) (b : Fin 32) (k : Fin 512) :
    select k1_pay4 (concatenate S32x512 1 [⟨S32x500, x⟩, ⟨S32x12, broadcast S32x12 0#32⟩] concatenates_S32x500_S32x12_S32x512_d1)
      (broadcast S32x512 0#32) (ValueIdx.ix2 b k) = vAt x b k := by
  unfold vAt select Scalar.select
  rw [valid_apply]
  by_cases h : k.val < 500
  · rw [dif_pos h, if_pos (by rw [decide_eq_true h]; rfl)]
    refine concatenate_pair_apply_left (t := S32x512) (s₁ := S32x500) (s₂ := S32x12) 1 x _ _ (ValueIdx.ix2 b k) rfl (ValueIdx.ix2 b ⟨k.val, h⟩) fun a => ?_
    match a with
    | ⟨0, _⟩ => rfl
    | ⟨1, _⟩ => rfl
  · rw [dif_neg h, if_neg (by rw [decide_eq_false h]; decide)]
    rfl

theorem pay5_apply (ind : S32x500.Idx → BitVec 32) (b : Fin 32) (k : Fin 512) : k1_pay5 (F := F) ind (ValueIdx.ix2 b k) = vAt ind b k :=
  padded ind b k

theorem maskf_apply (mk : S32x500.Idx → BitVec 32) (b : Fin 32) (k : Fin 512) :
    maskf (F := F) mk (ValueIdx.ix2 b k) = FloatOps.sitofp .f32 (vAt mk b k) := by
  refine Eq.trans ?_ (congrArg (FloatOps.sitofp .f32) (padded mk b k))
  rfl

theorem shr (v n : BitVec 32) (h : n.toNat < 32) : IntOp.shrui .vector v n = v >>> n := by
  unfold IntOp.shrui; exact if_pos h

set_option maxRecDepth 8192 in
set_option maxHeartbeats 2000000 in
theorem pay6_apply (ind : S32x500.Idx → BitVec 32) (b : Fin 32) (k : Fin 512) :
    k1_pay6 (F := F) ind (ValueIdx.ix2 b k) = BitVec.ofNat 32 (b.val / 8 * 2097152) + ((vAt ind b k >>> 7#32) &&& 1#32) * 1048576#32 := by
  rw [← pay5_apply (F := F), ← shr _ 7#32 (by decide)]
  have hi := iota0 b k
  unfold k1_pay6
  generalize (iota .tc S32x512 32 [0] iota_S32x512_d0_w32) = v1 at hi ⊢
  simp only [addi, muli, select, andi, cmpi, subi, divsi, remsi, extui, shrui, broadcast, hi]
  refine congrArg₂ _ ?_ rfl
  clear hi v1 ind k
  revert b
  decide

set_option maxRecDepth 8192 in
set_option maxHeartbeats 2000000 in
theorem posOf_apply (ind : S32x500.Idx → BitVec 32) (b : Fin 32) (k : Fin 512) :
    posOf (F := F) ind (ValueIdx.ix2 b k) = BitVec.ofNat 32 (b.val / 8 * 2097152) + ((vAt ind b k >>> 7#32) &&& 1#32) * 1048576#32
      + BitVec.ofNat 32 (b.val % 8 * 131072) + (vAt ind b k >>> 8#32) * 128#32 + (vAt ind b k &&& 127#32) := by
  rw [← pay6_apply (F := F), ← pay5_apply (F := F), ← shr _ 8#32 (by decide)]
  have hi := iota0 b k
  unfold posOf k1_pay7
  generalize (iota .tc S32x512 32 [0] iota_S32x512_d0_w32) = v1 at hi ⊢
  have hb : ∀ x : IVec S32x512 1, broadcastTo S32x512 x broadcasts_S32x512_S32x512 (ValueIdx.ix2 b k) = x (ValueIdx.ix2 b k) := fun x =>
    congrArg x (by funext a; match a with | ⟨0, _⟩ => rfl | ⟨1, _⟩ => rfl)
  simp only [addi, muli, select, andi, xori, cmpi, subi, remsi, shrui, hb, broadcast, hi]
  refine congrArg₂ _ (congrArg₂ _ (congrArg₂ _ rfl ?_) rfl) rfl
  clear hi hb v1 ind k
  revert b
  decide

theorem linOf_apply (ind : S32x500.Idx → BitVec 32) (b : Fin 32) (k : Fin 512) :
    linOf (F := F) ind (ValueIdx.ix2 b k) = BitVec.ofNat 32 b.val * 262144#32 + vAt ind b k := by
  have hi := iota0 b k
  unfold linOf k1_pay9
  generalize (iota .tc S32x512 32 [0] iota_S32x512_d0_w32) = v1 at hi ⊢
  simp only [addi, muli, broadcast, hi, pay5_apply]
  rfl

theorem tgtOf_apply (b : Fin 32) (k : Fin 512) :
    tgtOf (ValueIdx.ix2 b k) = if k.val < 500 then BitVec.ofNat 32 b.val * 2000#32 + BitVec.ofNat 32 k.val * 4#32 else 0#32 := by
  have hi := iota0 b k
  have hj := iota1 b k
  unfold tgtOf k1_pay8
  generalize (iota .tc S32x512 32 [0] iota_S32x512_d0_w32) = v1 at hi ⊢
  generalize (iota .tc S32x512 32 [1] iota_S32x512_d1_w32) = v0 at hj ⊢
  simp only [addi, muli, broadcast, hi, hj, select, Scalar.select, valid_apply]
  by_cases h : k.val < 500
  · rw [if_pos h, if_pos (by rw [decide_eq_true h]; rfl)]
    rfl
  · rw [if_neg h, if_neg (by rw [decide_eq_false h]; decide)]

/-! ## The columns of the lists -/

/-- Column `512 c + k`. -/
def col (c : Fin 4) (k : Fin 512) : Fin 2048 := ⟨512 * c.val + k.val, by omega⟩

theorem col_surj (y : Fin 2048) : ∃ c k, y = col c k :=
  ⟨⟨y.val / 512, by omega⟩, ⟨y.val % 512, by omega⟩, Fin.ext (by show y.val = 512 * (y.val / 512) + y.val % 512; omega)⟩

theorem cols4_col {α : Type} (p : Fin 4 → S32x512.Idx → α) (b : Fin 32) (c : Fin 4) (k : Fin 512) :
    cols4 (p 0) (p 1) (p 2) (p 3) (ValueIdx.ix2 b (col c k)) = p c (ValueIdx.ix2 b k) := by
  have e : (⟨(col c k).val % 512, Nat.mod_lt _ (by decide)⟩ : Fin 512) = k := Fin.ext (by show (512 * c.val + k.val) % 512 = k.val; omega)
  have hk := k.isLt
  show (if (col c k).val < 512 then p 0 (ValueIdx.ix2 b ⟨(col c k).val % 512, _⟩) else if (col c k).val < 1024 then p 1 (ValueIdx.ix2 b ⟨(col c k).val % 512, _⟩)
    else if (col c k).val < 1536 then p 2 (ValueIdx.ix2 b ⟨(col c k).val % 512, _⟩) else p 3 (ValueIdx.ix2 b ⟨(col c k).val % 512, _⟩)) = _
  rw [e]
  have hv : (col c k).val = 512 * c.val + k.val := rfl
  match c with
  | 0 => rw [if_pos (by rw [hv]; show 512 * 0 + k.val < 512; omega)]
  | 1 => rw [if_neg (by rw [hv]; show ¬ 512 * 1 + k.val < 512; omega), if_pos (by rw [hv]; show 512 * 1 + k.val < 1024; omega)]
  | 2 => rw [if_neg (by rw [hv]; show ¬ 512 * 2 + k.val < 512; omega), if_neg (by rw [hv]; show ¬ 512 * 2 + k.val < 1024; omega),
           if_pos (by rw [hv]; show 512 * 2 + k.val < 1536; omega)]
  | 3 => rw [if_neg (by rw [hv]; show ¬ 512 * 3 + k.val < 512; omega), if_neg (by rw [hv]; show ¬ 512 * 3 + k.val < 1024; omega),
           if_neg (by rw [hv]; show ¬ 512 * 3 + k.val < 1536; omega)]

theorem list1_col (ind : S32x500.Idx → BitVec 32) (b : Fin 32) (c : Fin 4) (k : Fin 512) :
    list1 (F := F) ind (ValueIdx.ix2 b (col c k)) = linOf (F := F) ind (ValueIdx.ix2 b k) + BitVec.ofNat 32 (c.val * 65536) := by
  refine (cols4_col ![_, _, _, _] b c k).trans ?_
  match c with
  | 0 => rfl
  | 1 => rfl
  | 2 => rfl
  | 3 => rfl

theorem list2_col (ind : S32x500.Idx → BitVec 32) (b : Fin 32) (c : Fin 4) (k : Fin 512) :
    list2 (F := F) ind (ValueIdx.ix2 b (col c k)) = posOf (F := F) ind (ValueIdx.ix2 b k) + BitVec.ofNat 32 (c.val * 32768) := by
  refine (cols4_col ![_, _, _, _] b c k).trans ?_
  match c with
  | 0 => rfl
  | 1 => rfl
  | 2 => rfl
  | 3 => rfl

theorem list3_col (b : Fin 32) (c : Fin 4) (k : Fin 512) :
    list3 (ValueIdx.ix2 b (col c k)) = tgtOf (ValueIdx.ix2 b k) + BitVec.ofNat 32 c.val := by
  refine (cols4_col ![_, _, _, _] b c k).trans ?_
  match c with
  | 0 => rfl
  | 1 => rfl
  | 2 => rfl
  | 3 => rfl

/-! ## The positions as numbers -/

theorem vAt_lt (ind : S32x500.Idx → BitVec 32) (hin : ∀ x, (ind x).toNat < 65536) (b : Fin 32) (k : Fin 512) :
    (vAt ind b k).toNat < 65536 := by
  unfold vAt
  split
  · exact hin _
  · decide

theorem and_low (v : BitVec 32) (n : ℕ) (x : BitVec 32) (h : x.toNat = 2 ^ n - 1) : (v &&& x).toNat = v.toNat % 2 ^ n := by
  rw [BitVec.toNat_and, h, Nat.and_two_pow_sub_one_eq_mod]

theorem shr_toNat (v x : BitVec 32) (n : ℕ) (h : x.toNat = n) : (v >>> x).toNat = v.toNat / 2 ^ n := by
  rw [BitVec.ushiftRight_eq', BitVec.toNat_ushiftRight, h, Nat.shiftRight_eq_div_pow]

variable (ind : S32x500.Idx → BitVec 32) (hin : ∀ x, (ind x).toNat < 65536)
include hin

theorem list1_toNat (b : Fin 32) (c : Fin 4) (k : Fin 512) :
    (list1 (F := F) ind (ValueIdx.ix2 b (col c k))).toNat = b.val * 262144 + c.val * 65536 + (vAt ind b k).toNat := by
  have hv := vAt_lt ind hin b k
  rw [list1_col, linOf_apply]
  simp only [BitVec.toNat_add, BitVec.toNat_mul, BitVec.toNat_ofNat, Nat.reducePow, Nat.reduceMod]
  omega

theorem list2_toNat (b : Fin 32) (c : Fin 4) (k : Fin 512) :
    (list2 (F := F) ind (ValueIdx.ix2 b (col c k))).toNat = b.val / 8 * 2097152 + (vAt ind b k).toNat / 128 % 2 * 1048576 + b.val % 8 * 131072
      + c.val * 32768 + (vAt ind b k).toNat / 256 * 128 + (vAt ind b k).toNat % 128 := by
  have hv := vAt_lt ind hin b k
  rw [list2_col, posOf_apply]
  simp only [BitVec.toNat_add, BitVec.toNat_mul, BitVec.toNat_ofNat, Nat.reducePow, Nat.reduceMod, shr_toNat _ 7#32 7 rfl,
    shr_toNat _ 8#32 8 rfl, and_low _ 7 127#32 rfl, and_low _ 1 1#32 rfl]
  omega

omit hin in
theorem list3_toNat (b : Fin 32) (c : Fin 4) (k : Fin 512) :
    (list3 (ValueIdx.ix2 b (col c k))).toNat = if k.val < 500 then b.val * 2000 + k.val * 4 + c.val else c.val := by
  rw [list3_col, tgtOf_apply]
  split
  · simp only [BitVec.toNat_add, BitVec.toNat_mul, BitVec.toNat_ofNat, Nat.reducePow, Nat.reduceMod]
    omega
  · simp only [BitVec.toNat_add, BitVec.toNat_ofNat, Nat.reducePow, Nat.reduceMod]
    omega

omit hin in
theorem idx_cols (x : S32x2048.Idx) : ∃ b c k, x = ValueIdx.ix2 b (col c k) := by
  obtain ⟨c, k, e⟩ := col_surj (x 1)
  refine ⟨x 0, c, k, ?_⟩
  rw [← e]
  funext a
  match a with
  | ⟨0, _⟩ => rfl
  | ⟨1, _⟩ => rfl

theorem list1_lt (x : S32x2048.Idx) : (list1 (F := F) ind x).toNat < 8388608 := by
  obtain ⟨b, c, k, rfl⟩ := idx_cols x
  have hv := vAt_lt ind hin b k
  rw [list1_toNat ind hin]
  omega

theorem list2_lt (x : S32x2048.Idx) : (list2 (F := F) ind x).toNat < 8388608 := by
  obtain ⟨b, c, k, rfl⟩ := idx_cols x
  have hv := vAt_lt ind hin b k
  rw [list2_toNat ind hin]
  omega

omit hin in
theorem list3_lt (x : S32x2048.Idx) : (list3 x).toNat < 64000 := by
  obtain ⟨b, c, k, rfl⟩ := idx_cols x
  rw [list3_toNat]
  split <;> omega

end Cert.Proof

end
-- ==== Proof.Frames.lean ====
/-
  What the range condition on the arguments gives, and that the programs run: the kernel's program as printed and at
  extended reals, and the reference's.
-/
module

public import proofs.«01_k».proof.Defs
public import proofs.«01_k».proof.Proof.Whole
public import proofs.«01_k».proof.Proof.Lists
public import proofs.«01_k».proof.Proof.Gen.Kernel
public import proofs.«01_k».proof.Proof.Gen.Pre_in_range
public import proofs.«01_k».proof.Proof.Gen.ReferenceIdeal.Run
public import Idealize.ShloMosaic.Lib.ReduceAll

@[expose] public section

noncomputable section

namespace Cert.Proof

open Cert.KernelIdeal Cert.KernelIdeal.Gen
open Idealize.ShloMosaic Idealize.ShloMosaic.TcCoe Idealize.SL.Sem

variable {F : FTy → Type} [FloatOps F]

/-! ## The range condition -/

theorem andi_one (p q : BitVec 1) (h : IntOp.andi p q = 1#1) : p = 1#1 ∧ q = 1#1 := by
  revert p q; decide
theorem ori_one (p q : BitVec 1) (h : IntOp.ori p q = 1#1) : p = 1#1 ∨ q = 1#1 := by
  revert p q; decide

/-- The condition in plain words: every index is below 65536 and every mask entry is 0 or 1. -/
structure Ok (mk ind : S32x500.Idx → BitVec 32) : Prop where
  ind : ∀ x, (ind x).toNat < 65536
  mask : ∀ x, mk x = 0#32 ∨ mk x = 1#32

theorem ok_of_fn (x0 x1 : FVec F S32x4x256x256 .f32) (mk ind : IVec S32x500 32) (x4 : FVec F S32x500x4 .f32) (j : S_.Idx)
    (h : Cert.Pre_in_range.fn (F := F) x0 x1 mk ind x4 j = 1#1) : Ok mk ind := by
  obtain ⟨h12, h3⟩ := andi_one _ _ h
  obtain ⟨h1, h2⟩ := andi_one _ _ h12
  have e1 := fun i => Host.reduce_andi_all _ _ _ _ _ h1 i
  have e2 := fun i => Host.reduce_andi_all _ _ _ _ _ h2 i
  have e3 := fun i => Host.reduce_andi_all _ _ _ _ _ h3 i
  refine ⟨fun i => ?_, fun i => ?_⟩
  · have a1 : IntOp.cmpi .sge (ind i) 0#32 = 1#1 := e1 i
    have a2 : IntOp.cmpi .slt (ind i) 65536#32 = 1#1 := e2 i
    simp only [IntOp.cmpi, ofBool_one, BitVec.sle_eq_decide, BitVec.slt_eq_decide, decide_eq_true_eq, BitVec.toInt_eq_toNat_cond,
      BitVec.toNat_ofNat, Nat.reducePow, Nat.reduceMod] at a1 a2
    omega
  · have a3 : IntOp.ori (IntOp.cmpi .eq (mk i) 0#32) (IntOp.cmpi .eq (mk i) 1#32) = 1#1 := e3 i
    rcases ori_one _ _ a3 with h | h
    · exact Or.inl (by simpa [IntOp.cmpi, ofBool_one] using h)
    · exact Or.inr (by simpa [IntOp.cmpi, ofBool_one] using h)

/-- Under the condition every position is inside its table. -/
theorem argArr_inRange (x0 x1 : S32x4x256x256.Idx → F .f32) (mk ind : S32x500.Idx → BitVec 32) (x4 : S32x500x4.Idx → F .f32)
    (o0 o1 : S32x16.Idx → F .f32) (h : Ok mk ind) : (argArr x0 x1 mk ind x4 o0 o1).InRange :=
  ⟨list1_lt ind h.ind, list2_lt ind h.ind, list3_lt⟩

theorem arrs_inRange (m : (ℓ : Loc nD τ sig) → Buf (Elt F) ℓ) (d : Dev nD) (h : Ok (a2 m d) (a3 m d)) : (arrs m d).InRange := by
  rw [arrs_eq]; exact argArr_inRange _ _ _ _ _ _ _ h

theorem ok_Kernel (m : (ℓ : Loc Cert.Kernel.nD Cert.Kernel.τ Cert.Kernel.sig) → Buf (Elt Bits) ℓ) (h : Pre_Kernel m) (d : Dev nD) :
    Ok (a2 (F := Bits) m d) (a3 (F := Bits) m d) :=
  ok_of_fn _ _ _ _ _ ValueIdx.ix0 (congrFun (h d) _)

theorem ok_KernelIdeal (m : (ℓ : Loc nD τ sig) → Buf (Elt Ideal) ℓ) (h : Pre_KernelIdeal m) (d : Dev nD) : Ok (a2 m d) (a3 m d) :=
  ok_of_fn _ _ _ _ _ ValueIdx.ix0 (congrFun (h d) _)

/-! ## The programs run -/

instance (e : EltTy) : Nonempty (Elt Bits e) := by
  cases e <;> exact ⟨default⟩
instance (e : EltTy) : Nonempty (Elt Ideal e) := by
  cases e <;> exact ⟨default⟩

/-! The two printings of the kernel have the same text: their body tables and threads are equal. -/

theorem defs₀_same : Cert.Kernel.defs₀ (F := F) = Cert.KernelIdeal.defs₀ (F := F) := by
  funext κ l a
  cases κ with
  | tc =>
    revert a
    match l with
    | ⟨0, _⟩ => exact fun a => rfl
    | ⟨1, _⟩ => exact fun a => rfl
    | ⟨2, _⟩ => exact fun a => rfl
    | ⟨3, _⟩ => exact fun a => rfl
  | scScalar c =>
    revert a
    match l with
    | ⟨0, _⟩ => exact fun a => rfl
    | ⟨1, _⟩ => exact fun a => rfl
    | ⟨2, _⟩ => exact fun a => rfl
    | ⟨3, _⟩ => exact fun a => rfl
  | scVector c i =>
    revert a
    match l with
    | ⟨0, _⟩ => exact fun a => rfl
    | ⟨1, _⟩ => exact fun a => rfl
    | ⟨2, _⟩ => exact fun a => rfl
    | ⟨3, _⟩ => exact fun a => rfl

set_option maxHeartbeats 4000000 in
theorem defs_same : Cert.Kernel.defs (F := F) = Cert.KernelIdeal.defs (F := F) :=
  congrArg (fun d => (Cert.KernelIdeal.sc (F := F)).defs (Pipeline.defs (Cert.KernelIdeal.pcfgs (F := F)) d)) defs₀_same

set_option maxHeartbeats 4000000 in
theorem threads_same : Cert.Kernel.threads (F := F) = Cert.KernelIdeal.threads (F := F) := rfl

set_option maxHeartbeats 4000000 in
/-- The kernel's program as printed runs, leaves its arguments as they were and every semaphore at zero. -/
theorem frame_Kernel : Cert.quiescent_Kernel := fun m ρ h => by
  rw [defs_same, threads_same]
  exact (θ_run (Cert.KernelIdeal.defs (F := Bits)) _ _).mono (fun _ p => ⟨fun c => (p.1 c).2, p.2⟩)
    (run_main (F := Bits) m ρ fun d => arrs_inRange (F := Bits) m d (ok_Kernel m h d))

/-- The kernel's program at extended reals runs, leaves its arguments as they were and every semaphore at zero. -/
theorem frame_KernelIdeal : Cert.quiescent_KernelIdeal := fun m ρ h =>
  (θ_run (Cert.KernelIdeal.defs (F := Ideal)) _ _).mono (fun _ p => ⟨fun c => (p.1 c).2, p.2⟩)
    (run_main (F := Ideal) m ρ fun d => arrs_inRange (F := Ideal) m d (ok_KernelIdeal m h d))

/-- The reference runs, leaves its arguments as they were, and has no semaphore. -/
theorem frame_Reference : Cert.quiescent_ReferenceIdeal := fun m ρ _ =>
  (θ_run (Cert.ReferenceIdeal.defs (F := Ideal)) _ _).mono
    (fun r p => ⟨fun c => (p c).2, sem_eq_zero_of_no_sems (by decide) r.2⟩) (Cert.ReferenceIdeal.Value.run m ρ)

/-- The reference runs likewise under the range condition. -/
theorem frame_Reference_in_range : Cert.quiescent_ReferenceIdeal_pre_in_range := fun m ρ _ => frame_Reference m ρ trivial

end Cert.Proof

end
-- ==== Proof.RefValue.lean ====
/-
  The reference's value at extended reals: a quotient of two sums over rows, slots and channels.
-/
module

public import proofs.«01_k».proof.Proof.Frames
public import Idealize.ShloMosaic.Lib.Pointwise
public import Idealize.ShloMosaic.Lib.IdealHost

@[expose] public section

noncomputable section

namespace Cert.Proof.Ref

open Cert.ReferenceIdeal Cert.ReferenceIdeal.Gen
open Idealize.ShloMosaic Idealize.ShloMosaic.TcCoe Idealize.SL.Sem

abbrev takeDims : GatherDims S32x65536x4 S32x500x4x1 S32x500x4 := gather_S32x65536x4_S32x500x4x1_S32x500x4_n_1_02_02_1_3_111

/-- Row `b`, entry `n`, channel `c` of a table. -/
abbrev tab (b : Fin 32) (n : Fin 65536) (c : Fin 4) : S32x65536x4.Idx := ValueIdx.ix3 b n c
/-- Row `b`, slot `k`, channel `c`. -/
abbrev pt (b : Fin 32) (k : Fin 500) (c : Fin 4) : S32x500x4.Idx := ValueIdx.ix3 b k c

/-- The batched gather at a point: the row's and channel's table at the point's start index, clamped. -/
theorem gather_pt {α : Type} (x : S32x65536x4.Idx → α) (idx : IVec S32x500x4x1 32) (b : Fin 32) (k : Fin 500) (c : Fin 4) :
    Host.gather takeDims x idx (pt b k c)
      = x (tab b ⟨min (idx (ValueIdx.ix4 b k c 0)).toInt.toNat 65535, by omega⟩ c) := by
  refine congrArg x (funext fun a => Fin.ext ?_)
  show takeDims.start (pt b k c) idx a + takeDims.batchCoord (pt b k c) a + takeDims.offCoord (pt b k c) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · have h0 : (0 : Fin 3) ∈ takeDims.operandBatchingDims := by decide
    rw [GatherDims.start_batching _ _ _ _ h0,
      GatherDims.offCoord_eq_zero _ _ _ (fun h => ((GatherDims.mem_sKept _ _).mp h).2 h0)]
    unfold GatherDims.batchCoord
    rw [dif_pos h0]
    show 0 + _ + 0 = b.val
    rw [Nat.zero_add, Nat.add_zero]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ takeDims.startIndexMap from List.mem_singleton.mpr rfl)]
    have hs : takeDims.siIdx (pt b k c) ⟨List.idxOf (1 : Fin 3) takeDims.startIndexMap,
        List.idxOf_lt_length_iff.2 (List.mem_singleton.mpr rfl)⟩ = ValueIdx.ix4 b k c (0 : Fin 1) := by
      funext e
      match e with
      | ⟨0, _⟩ => rfl
      | ⟨1, _⟩ => rfl
      | ⟨2, _⟩ => rfl
      | ⟨3, _⟩ => rfl
    rw [hs]
    rfl
  · have h2 : (2 : Fin 3) ∈ takeDims.operandBatchingDims := by decide
    rw [GatherDims.start_batching _ _ _ _ h2,
      GatherDims.offCoord_eq_zero _ _ _ (fun h => ((GatherDims.mem_sKept _ _).mp h).2 h2)]
    unfold GatherDims.batchCoord
    rw [dif_pos h2]
    show 0 + _ + 0 = c.val
    rw [Nat.zero_add, Nat.add_zero]
    rfl

/-! ## The gathered predictions -/

/-- An index array copied to every channel. -/
def spread (ind : S32x500.Idx → BitVec 32) : S32x500x4.Idx → BitVec 32 :=
  broadcastInDim S32x500x4 ![0, 1, 2] bcast_S32x500x1_S32x500x4_0_1_2 (broadcastInDim S32x500x1 ![0, 1] bcast_S32x500_S32x500x1_0_1 ind)

/-- The indices the gather is given: negative ones wrapped. -/
def wrapped (ind : S32x500.Idx → BitVec 32) : S32x500x4x1.Idx → BitVec 32 :=
  shapeCast _ (select (cmpi .slt (spread ind) (broadcastInDim S32x500x4 ![] bcast_S_S32x500x4 (constantI S_ 32 0#32)))
    (addi (spread ind) (broadcastInDim S32x500x4 ![] bcast_S_S32x500x4 (constantI S_ 32 65536#32))) (spread ind)) shapeCasts_S32x500x4_S32x500x4x1

/-- Which points have an index inside the table. -/
def inside (ind : S32x500.Idx → BitVec 32) : S32x500x4.Idx → BitVec 1 :=
  Host.reduce IntOp.andi (andi (cmpi .sge (wrapped ind) (broadcastInDim S32x500x4x1 ![] bcast_S_S32x500x4x1 (constantI S_ 32 0#32)))
    (cmpi .sle (wrapped ind) (broadcastInDim S32x500x4x1 ![0, 1, 2, 3] bcast_S1x1x1x1_S32x500x4x1_0_1_2_3
      (broadcastInDim S1x1x1x1 ![3] bcast_S1_S1x1x1x1_3 (constantI S1 32 65535#32))))) (constantI S_ 1 1#1) reducesTo_S32x500x4x1_S32x500x4_d3 h_S_

/-- The image at each point's pixel, as the reference computes it. -/
def taken (x : S32x4x256x256.Idx → Ideal .f32) (ind : S32x500.Idx → BitVec 32) : S32x500x4.Idx → Ideal .f32 :=
  select (inside ind)
    (Host.gather takeDims (shapeCast _ (transpose S32x256x256x4 [0, 2, 3, 1] x transposes_S32x4x256x256_S32x256x256x4_0_2_3_1)
      shapeCasts_S32x256x256x4_S32x65536x4) (wrapped ind))
    (broadcastInDim S32x500x4 ![] bcast_S_S32x500x4 (constant S_ .f32 0x7FC00000#32))

theorem spread_pt (ind : S32x500.Idx → BitVec 32) (b : Fin 32) (k : Fin 500) (c : Fin 4) :
    spread ind (pt b k c) = ind (ValueIdx.ix2 b k) := by
  refine congrArg ind (funext fun a => Fin.ext ?_)
  match a with
  | ⟨0, _⟩ => rfl
  | ⟨1, _⟩ => rfl

theorem wrapped_pt (ind : S32x500.Idx → BitVec 32) (hin : ∀ x, (ind x).toNat < 65536) (b : Fin 32) (k : Fin 500) (c : Fin 4) :
    wrapped ind (ValueIdx.ix4 b k c (0 : Fin 1)) = ind (ValueIdx.ix2 b k) := by
  have hr : Shape.reshapeEquiv shapeCasts_S32x500x4_S32x500x4x1 (ValueIdx.ix4 b k c (0 : Fin 1)) = pt b k c := by
    refine Shape.reshapeEquiv_eq_of_vals _ _ _ _ _ (rowMajor_val3 _ 2000 4 rfl rfl) (rowMajor_val4 _ 2000 4 1 rfl rfl rfl) ?_
    show b.val * 2000 + k.val * 4 + c.val = b.val * 2000 + k.val * 4 + c.val * 1 + 0
    omega
  show Scalar.select (IntOp.cmpi .slt (spread ind (Shape.reshapeEquiv _ _)) 0#32) _ (spread ind (Shape.reshapeEquiv _ _)) = _
  rw [hr, spread_pt]
  have h := hin (ValueIdx.ix2 b k)
  unfold Scalar.select
  rw [if_neg]
  intro hc
  change _ = 1#1 at hc
  simp only [IntOp.cmpi, ofBool_one, BitVec.slt_eq_decide, decide_eq_true_eq, BitVec.toInt_eq_toNat_cond,
      BitVec.toNat_ofNat, Nat.reducePow, Nat.reduceMod] at hc
  omega

theorem inside_pt (ind : S32x500.Idx → BitVec 32) (hin : ∀ x, (ind x).toNat < 65536) (b : Fin 32) (k : Fin 500) (c : Fin 4) :
    inside ind (pt b k c) = 1#1 := by
  refine Host.reduce_andi_one _ _ _ _ _ rfl fun i => ?_
  obtain ⟨b', k', c', rfl⟩ : ∃ b' k' c', i = ValueIdx.ix4 (n0 := 32) (n1 := 500) (n2 := 4) (n3 := 1) b' k' c' 0 :=
    ⟨i 0, i 1, i 2, funext fun a => by
      match a with
      | ⟨0, _⟩ => rfl
      | ⟨1, _⟩ => rfl
      | ⟨2, _⟩ => rfl
      | ⟨3, _⟩ => exact Subsingleton.elim (α := Fin 1) _ _⟩
  have h := hin (ValueIdx.ix2 b' k')
  show IntOp.andi (IntOp.cmpi .sge (wrapped ind _) 0#32) (IntOp.cmpi .sle (wrapped ind _) 65535#32) = _
  rw [wrapped_pt ind hin]
  have h1 : IntOp.cmpi .sge (ind (ValueIdx.ix2 b' k')) 0#32 = 1#1 := by
    simp only [IntOp.cmpi, ofBool_one, BitVec.sle_eq_decide, decide_eq_true_eq, BitVec.toInt_eq_toNat_cond,
      BitVec.toNat_ofNat, Nat.reducePow, Nat.reduceMod]
    omega
  have h2 : IntOp.cmpi .sle (ind (ValueIdx.ix2 b' k')) 65535#32 = 1#1 := by
    simp only [IntOp.cmpi, ofBool_one, BitVec.sle_eq_decide, decide_eq_true_eq, BitVec.toInt_eq_toNat_cond,
      BitVec.toNat_ofNat, Nat.reducePow, Nat.reduceMod]
    omega
  rw [h1, h2]; rfl

/-- The pixel of index `v`: row `v / 256`, column `v % 256`. -/
abbrev pix (b : Fin 32) (c : Fin 4) (v : Nat) (h : v < 65536) : S32x4x256x256.Idx :=
  ValueIdx.ix4 b c ⟨v / 256, by omega⟩ ⟨v % 256, by omega⟩

theorem taken_pt (x : S32x4x256x256.Idx → Ideal .f32) (ind : S32x500.Idx → BitVec 32) (hin : ∀ x, (ind x).toNat < 65536)
    (b : Fin 32) (k : Fin 500) (c : Fin 4) :
    taken x ind (pt b k c) = x (pix b c (ind (ValueIdx.ix2 b k)).toNat (hin _)) := by
  unfold taken select
  rw [inside_pt ind hin, ValueIdx.select_one, gather_pt]
  have hw := wrapped_pt ind hin b k c
  have h := hin (ValueIdx.ix2 b k)
  have hv : min (ind (ValueIdx.ix2 b k)).toInt.toNat 65535 = (ind (ValueIdx.ix2 b k)).toNat := by
    rw [BitVec.toInt_eq_toNat_cond]; split <;> omega
  generalize hn : (⟨min (wrapped ind (ValueIdx.ix4 b k c 0)).toInt.toNat 65535, _⟩ : Fin 65536) = n
  have hn' : n.val = (ind (ValueIdx.ix2 b k)).toNat := by rw [← hn]; show min (wrapped ind (ValueIdx.ix4 b k c 0)).toInt.toNat 65535 = _; rw [hw]; exact hv
  have hr : Shape.reshapeEquiv shapeCasts_S32x256x256x4_S32x65536x4 (tab b n c)
      = (ValueIdx.ix4 b ⟨n.val / 256, by omega⟩ ⟨n.val % 256, by omega⟩ c : S32x256x256x4.Idx) := by
    refine Shape.reshapeEquiv_eq_of_vals _ _ _ _ _ (rowMajor_val4 _ 262144 1024 4 rfl rfl rfl) (rowMajor_val3 _ 262144 4 rfl rfl) ?_
    show b.val * 262144 + n.val / 256 * 1024 + n.val % 256 * 4 + c.val = b.val * 262144 + n.val * 4 + c.val
    omega
  show transpose S32x256x256x4 [0, 2, 3, 1] x _ (Shape.reshapeEquiv _ _) = _
  rw [hr]
  refine congrArg x (funext fun a => Fin.ext ?_)
  match a with
  | ⟨0, _⟩ => rfl
  | ⟨1, _⟩ => rfl
  | ⟨2, _⟩ => exact congrArg (· / 256) hn'
  | ⟨3, _⟩ => exact congrArg (· % 256) hn'

/-! ## The two sums -/

/-- The mask at every point, as a number. -/
def mfl (mk : S32x500.Idx → BitVec 32) : S32x500x4.Idx → Ideal .f32 := sitofp .f32 (spread mk)

/-- The squared, masked difference at every point. -/
def sq (x0 x1 : S32x4x256x256.Idx → Ideal .f32) (mk ind : S32x500.Idx → BitVec 32) (x4 : S32x500x4.Idx → Ideal .f32) :
    S32x500x4.Idx → Ideal .f32 :=
  mulf (subf (mulf (taken x1 ind) (mfl mk)) (mulf (subf x4 (taken x0 ind)) (mfl mk)))
    (subf (mulf (taken x1 ind) (mfl mk)) (mulf (subf x4 (taken x0 ind)) (mfl mk)))

/-- What the reference computes of its arguments. -/
def value (x0 x1 : S32x4x256x256.Idx → Ideal .f32) (mk ind : S32x500.Idx → BitVec 32) (x4 : S32x500x4.Idx → Ideal .f32) : S_.Idx → Ideal .f32 :=
  Host.divf (Host.reduceAdd (sq x0 x1 mk ind x4) (constant S_ .f32 0x00000000#32) reducesTo_S32x500x4_S_d0_1_2 h_S_)
    (addf (Host.reduceAdd (mfl mk) (constant S_ .f32 0x00000000#32) reducesTo_S32x500x4_S_d0_1_2 h_S_) (constant S_ .f32 0x38D1B717#32))

set_option maxRecDepth 8192 in
theorem res_eq (m : (ℓ : Loc nD τ sig) → Buf (Elt Ideal) ℓ) (c : Dev nD) :
    Cert.ReferenceIdeal.Value.res_main_v21 m c = value (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_main_v21 value sq mfl taken inside wrapped spread
  rfl

/-- A sum over the whole array, point by point. -/
theorem total (x : S32x500x4.Idx → Ideal .f32) (j : S_.Idx) :
    Host.reduceAdd x (constant S_ .f32 0x00000000#32) reducesTo_S32x500x4_S_d0_1_2 h_S_ j
      = (∑ b : Fin 32, ∑ k : Fin 500, ∑ c : Fin 4, (x (pt b k c) : EReal)) := by
  rw [ValueIdx.hostReduceAdd_apply, Ideal.hostReduceAdd_total _ (fun b => b.elim0)]
  refine (congrArg (· + _) Ideal.ofBits_zero_f32).trans ((zero_add _).trans (sum_idx3 _))

/-- The mask at a point as an extended real. -/
abbrev mval (mk : S32x500.Idx → BitVec 32) (b : Fin 32) (k : Fin 500) : EReal := (((mk (ValueIdx.ix2 b k)).toInt : ℝ) : EReal)

theorem mfl_pt (mk : S32x500.Idx → BitVec 32) (b : Fin 32) (k : Fin 500) (c : Fin 4) : mfl mk (pt b k c) = mval mk b k := by
  show (((spread mk (pt b k c)).toInt : ℝ) : EReal) = _
  rw [spread_pt]

/-- The reference's squared, masked difference in extended reals. -/
def term (m p q t : EReal) : EReal := (q * m - (t - p) * m) * (q * m - (t - p) * m)

theorem quotient_at (x y : S_.Idx → Ideal .f32) (w : BitVec 32) (j : S_.Idx) :
    Host.divf x (addf y (constant S_ .f32 w)) j = Ideal.div (x j) (y j + Ideal.ofBits .f32 w) := rfl

theorem term_at (q p m t : S32x500x4.Idx → Ideal .f32) (j : S32x500x4.Idx) :
    mulf (subf (mulf q m) (mulf (subf t p) m)) (subf (mulf q m) (mulf (subf t p) m)) j = term (m j) (p j) (q j) (t j) := rfl

/-- The reference's value: the sum of the squared differences over the sum of the mask and a constant. -/
theorem value_eq (x0 x1 : S32x4x256x256.Idx → Ideal .f32) (mk ind : S32x500.Idx → BitVec 32) (x4 : S32x500x4.Idx → Ideal .f32)
    (hin : ∀ x, (ind x).toNat < 65536) (j : S_.Idx) :
    value x0 x1 mk ind x4 j = Ideal.div
      (∑ b : Fin 32, ∑ k : Fin 500, ∑ c : Fin 4, term (mval mk b k) (x0 (pix b c (ind (ValueIdx.ix2 b k)).toNat (hin _)))
        (x1 (pix b c (ind (ValueIdx.ix2 b k)).toNat (hin _))) (x4 (pt b k c)))
      ((∑ b : Fin 32, ∑ k : Fin 500, ∑ _c : Fin 4, mval mk b k) + Ideal.ofBits .f32 0x38D1B717#32) := by
  unfold value sq
  rw [quotient_at, total, total]
  simp only [mfl_pt, term_at, taken_pt x0 ind hin, taken_pt x1 ind hin]

end Cert.Proof.Ref
-- ==== Proof.KerValue.lean ====
/-
  The kernel's value at extended reals: the same quotient of sums over rows, slots and channels.
-/
module

public import proofs.«01_k».proof.Proof.RefValue

@[expose] public section

noncomputable section

namespace Cert.Proof

open Cert.KernelIdeal Cert.KernelIdeal.Gen
open Idealize.ShloMosaic Idealize.ShloMosaic.TcCoe Idealize.SL.Sem

/-! ## Sums over a row -/

theorem sum_mul {M : Type} [AddCommMonoid M] (m n : ℕ) (f : ℕ → M) :
    ∑ y : Fin (m * n), f y.val = ∑ i : Fin m, ∑ j : Fin n, f (j.val + n * i.val) := by
  rw [← finProdFinEquiv.sum_comp (fun y => f y.val), Fintype.sum_prod_type]
  rfl

/-- Lane by lane and trip by trip is slot by slot and channel by channel, when the padding slots add nothing. -/
theorem row_sum {M : Type} [AddCommMonoid M] (g : ℕ → M) (h0 : ∀ c : Fin 4, ∀ k : ℕ, 500 ≤ k → k < 512 → g (k + 512 * c.val) = 0) :
    ∑ l : Fin 16, ∑ t ∈ Finset.range 128, g (l.val + 16 * t) = ∑ k : Fin 500, ∑ c : Fin 4, g (k.val + 512 * c.val) := by
  have e1 : ∑ l : Fin 16, ∑ t ∈ Finset.range 128, g (l.val + 16 * t) = ∑ y : Fin (128 * 16), g y.val := by
    rw [sum_mul 128 16 g, Finset.sum_comm, Finset.sum_range]
  have e2 : ∑ y : Fin (128 * 16), g y.val = ∑ c : Fin 4, ∑ k : Fin 512, g (k.val + 512 * c.val) := sum_mul 4 512 g
  rw [e1, e2, Finset.sum_comm (s := (Finset.univ : Finset (Fin 500)))]
  refine Finset.sum_congr rfl fun c _ => ?_
  have e3 := Fin.sum_univ_add (a := 500) (b := 12) (fun k : Fin (500 + 12) => g (k.val + 512 * c.val))
  refine e3.trans ?_
  rw [Finset.sum_eq_zero (s := (Finset.univ : Finset (Fin 12))) (fun k _ => h0 c _ (by simp) (by have := k.isLt; simp; omega)), add_zero]
  rfl

/-! ## The accumulators -/

/-- The kernel's masked squared difference. -/
def kterm (m p q t : EReal) : EReal := m * (p + q - t) * (p + q - t)

theorem pay3_at (a m p q t : S16.Idx → Ideal .f32) (j : S16.Idx) : k2_pay3 (F := Ideal) a m p q t j = (a j + kterm (m j) (p j) (q j) (t j) : EReal) := by
  unfold k2_pay3 k2_pay2
  simp only [shapeCast_self]
  rfl
theorem pay4_at (a m : S16.Idx → Ideal .f32) (j : S16.Idx) : k2_pay4 (F := Ideal) a m j = (a j + m j : EReal) := by
  unfold k2_pay4 k2_pay2
  simp only [shapeCast_self]
  rfl
theorem pay1_at (j : S16.Idx) : k2_pay1 (F := Ideal) j = (0 : EReal) := Ideal.ofBits_zero_f32

theorem accs_at (mk : S512.Idx → Ideal .f32) (p1 p2 tg : S2048.Idx → Ideal .f32) (j : S16.Idx) : ∀ n,
    ((accs mk p1 p2 tg n).1 j = (∑ t ∈ Finset.range n, kterm (mchunk mk t j) (chunk p1 t j) (chunk p2 t j) (chunk tg t j) : EReal))
    ∧ ((accs mk p1 p2 tg n).2 j = (∑ t ∈ Finset.range n, (mchunk mk t j : EReal) : EReal))
  | 0 => ⟨pay1_at j, pay1_at j⟩
  | n + 1 => by
    obtain ⟨h1, h2⟩ := accs_at mk p1 p2 tg j n
    refine ⟨(pay3_at _ _ _ _ _ j).trans ?_, (pay4_at _ _ j).trans ?_⟩
    · rw [h1, Finset.sum_range_succ]
    · rw [h2, Finset.sum_range_succ]

/-! ## The last kernel -/

theorem total3 (x : S32x16.Idx → Ideal .f32) (h) :
    extractAt ![0, 0, 0] (shapeCast S1x1x1 (multiReduction (F := Ideal) .add [1, 2] S1 (shapeCast S1x32x16 (shapeCast S32x16 x shapeCasts_S32x16_S32x16)
      shapeCasts_S32x16_S1x32x16) 0x00000000#32 reduces_S1x32x16_S1 h rfl) shapeCasts_S1_S1x1x1) inpos_S1x1x1_p0_0_0
      = (∑ b : Fin 32, ∑ l : Fin 16, (x (ValueIdx.ix2 b l) : EReal)) := by
  pointwise
  refine Finset.sum_congr rfl fun b _ => Finset.sum_congr rfl fun l _ => congrArg x (funext fun a => ?_)
  match a with
  | ⟨0, _⟩ => rfl
  | ⟨1, _⟩ => rfl

theorem quot_at (x y : S32x16.Idx → Ideal .f32) (j : S1.Idx) :
    quot x y j = Ideal.div (∑ b : Fin 32, ∑ l : Fin 16, (x (ValueIdx.ix2 b l) : EReal))
      ((∑ b : Fin 32, ∑ l : Fin 16, (y (ValueIdx.ix2 b l) : EReal)) + Ideal.ofBits .f32 0x38D1B717#32) := by
  rw [← total3 x (.inl rfl), ← total3 y (.inl rfl)]
  rfl

/-! ## The tables -/

theorem f1_at (x : S32x4x256x256.Idx → Ideal .f32) (b : Fin 32) (c : Fin 4) (v : ℕ) (h : v < 65536) :
    atBig (shapeCast S8388608 x shapeCasts_S32x4x256x256_S8388608) (b.val * 262144 + c.val * 65536 + v) = x (Ref.pix b c v h) := by
  refine congrArg x (Shape.reshapeEquiv_eq_of_vals _ _ _ _ _ (rowMajor_val4 _ 262144 65536 256 rfl rfl rfl) (rowMajor_val1 _) ?_)
  show b.val * 262144 + c.val * 65536 + v / 256 * 256 + v % 256 = (b.val * 262144 + c.val * 65536 + v) % 8388608
  omega

theorem tt_at (x : S32x500x4.Idx → Ideal .f32) (b : Fin 32) (k : Fin 500) (c : Fin 4) :
    atT (shapeCast S64000 x shapeCasts_S32x500x4_S64000) (b.val * 2000 + k.val * 4 + c.val) = x (Ref.pt b k c) := by
  refine congrArg x (Shape.reshapeEquiv_eq_of_vals _ _ _ _ _ (rowMajor_val3 _ 2000 4 rfl rfl) (rowMajor_val1 _) ?_)
  show b.val * 2000 + k.val * 4 + c.val = (b.val * 2000 + k.val * 4 + c.val) % 64000
  omega

theorem half1_at (x : S8x4x256x256.Idx → Ideal .f32) (r : Fin 8) (c : Fin 4) (h : Fin 256) (w : Fin 128) (n : Fin 1048576)
    (hn : n.val = r.val * 131072 + c.val * 32768 + h.val * 128 + w.val) :
    k0_pay1 x (ValueIdx.ix1 n) = x (ValueIdx.ix4 r c h ⟨w.val, by omega⟩) := by
  have hr : Shape.reshapeEquiv shapeCasts_S8x4x256x128_S1048576 (ValueIdx.ix1 n) = (ValueIdx.ix4 r c h w : S8x4x256x128.Idx) := by
    refine Shape.reshapeEquiv_eq_of_vals _ _ _ _ _ (rowMajor_val4 _ 131072 32768 128 rfl rfl rfl) (rowMajor_val1 _) ?_
    exact hn.symm
  show extractStridedSlice S8x4x256x128 ![0, 0, 0, 0] x slices_S8x4x256x256_o0_0_0_0_S8x4x256x128 (Shape.reshapeEquiv _ _) = _
  rw [hr]
  refine congrArg x (funext fun a => Fin.ext ?_)
  match a with
  | ⟨0, _⟩ => exact Nat.zero_add _
  | ⟨1, _⟩ => exact Nat.zero_add _
  | ⟨2, _⟩ => exact Nat.zero_add _
  | ⟨3, _⟩ => exact Nat.zero_add _

theorem half2_at (x : S8x4x256x256.Idx → Ideal .f32) (r : Fin 8) (c : Fin 4) (h : Fin 256) (w : Fin 128) (n : Fin 1048576)
    (hn : n.val = r.val * 131072 + c.val * 32768 + h.val * 128 + w.val) :
    k0_pay2 x (ValueIdx.ix1 n) = x (ValueIdx.ix4 r c h ⟨128 + w.val, by omega⟩) := by
  have hr : Shape.reshapeEquiv shapeCasts_S8x4x256x128_S1048576 (ValueIdx.ix1 n) = (ValueIdx.ix4 r c h w : S8x4x256x128.Idx) := by
    refine Shape.reshapeEquiv_eq_of_vals _ _ _ _ _ (rowMajor_val4 _ 131072 32768 128 rfl rfl rfl) (rowMajor_val1 _) ?_
    exact hn.symm
  show extractStridedSlice S8x4x256x128 ![0, 0, 0, 128] x slices_S8x4x256x256_o0_0_0_128_S8x4x256x128 (Shape.reshapeEquiv _ _) = _
  rw [hr]
  refine congrArg x (funext fun a => Fin.ext ?_)
  match a with
  | ⟨0, _⟩ => exact Nat.zero_add _
  | ⟨1, _⟩ => exact Nat.zero_add _
  | ⟨2, _⟩ => exact Nat.zero_add _
  | ⟨3, _⟩ => rfl

theorem f2_at (x : S32x4x256x256.Idx → Ideal .f32) (b : Fin 32) (c : Fin 4) (v : ℕ) (h : v < 65536) :
    atBig (split (F := Ideal) x) (b.val / 8 * 2097152 + v / 128 % 2 * 1048576 + b.val % 8 * 131072 + c.val * 32768 + v / 256 * 128 + v % 128)
      = x (Ref.pix b c v h) := by
  generalize hN : b.val / 8 * 2097152 + v / 128 % 2 * 1048576 + b.val % 8 * 131072 + c.val * 32768 + v / 256 * 128 + v % 128 = N
  have hb := b.isLt
  have hc := c.isLt
  have hv : v / 256 < 256 := by omega
  have hw : v % 128 < 128 := Nat.mod_lt _ (by decide)
  have hs : v / 128 % 2 < 2 := Nat.mod_lt _ (by decide)
  have hb8 : b.val / 8 < 4 := by omega
  have hr8 : b.val % 8 < 8 := Nat.mod_lt _ (by decide)
  have hR : v / 128 % 2 * 1048576 + b.val % 8 * 131072 + c.val * 32768 + v / 256 * 128 + v % 128 < 2097152 := by omega
  have hN' : N = b.val / 8 * 2097152 + (v / 128 % 2 * 1048576 + b.val % 8 * 131072 + c.val * 32768 + v / 256 * 128 + v % 128) := by omega
  have hlt : N % 8388608 = N := Nat.mod_eq_of_lt (by omega)
  have hq : N % 8388608 / 2097152 = b.val / 8 := by rw [hlt, hN']; omega
  have hm : N % 8388608 % 2097152 = v / 128 % 2 * 1048576 + b.val % 8 * 131072 + c.val * 32768 + v / 256 * 128 + v % 128 := by rw [hlt, hN']; omega
  unfold atBig split halves
  show (if h : N % 8388608 % 2097152 < 1048576 then k0_pay1 (F := Ideal) (quarter x _) (ValueIdx.ix1 ⟨N % 8388608 % 2097152, h⟩)
    else k0_pay2 (F := Ideal) (quarter x _) (ValueIdx.ix1 ⟨N % 8388608 % 2097152 - 1048576, _⟩)) = _
  have hv2 : v / 128 % 2 = 0 ∨ v / 128 % 2 = 1 := by omega
  rcases hv2 with h2 | h2
  · rw [dif_pos (by omega), half1_at _ ⟨b.val % 8, by omega⟩ c ⟨v / 256, by omega⟩ ⟨v % 128, by omega⟩ _ (by show N % 8388608 % 2097152 = _; rw [hm, h2]; simp)]
    refine congrArg x (funext fun a => Fin.ext ?_)
    match a with
    | ⟨0, _⟩ => show 8 * (N % 8388608 / 2097152) + b.val % 8 = b.val; omega
    | ⟨1, _⟩ => rfl
    | ⟨2, _⟩ => rfl
    | ⟨3, _⟩ => show v % 128 = v % 256; omega
  · rw [dif_neg (by omega), half2_at _ ⟨b.val % 8, by omega⟩ c ⟨v / 256, by omega⟩ ⟨v % 128, by omega⟩ _
      (by show N % 8388608 % 2097152 - 1048576 = b.val % 8 * 131072 + c.val * 32768 + v / 256 * 128 + v % 128; omega)]
    refine congrArg x (funext fun a => Fin.ext ?_)
    match a with
    | ⟨0, _⟩ => show 8 * (N % 8388608 / 2097152) + b.val % 8 = b.val; omega
    | ⟨1, _⟩ => rfl
    | ⟨2, _⟩ => rfl
    | ⟨3, _⟩ => show 128 + v % 128 = v % 256; omega

/-! ## A row of the SparseCore's results -/

section Row
variable (x0 x1 : S32x4x256x256.Idx → Ideal .f32) (mk ind : S32x500.Idx → BitVec 32) (x4 : S32x500x4.Idx → Ideal .f32)
  (o0 o1 : S32x16.Idx → Ideal .f32) (hin : ∀ x, (ind x).toNat < 65536)

theorem slot_lt (k : Fin 500) : k.val < 512 := by omega

theorem vAt_slot (x : S32x500.Idx → BitVec 32) (b : Fin 32) (k : Fin 500) : vAt x b ⟨k.val, slot_lt k⟩ = x (ValueIdx.ix2 b k) := by
  unfold vAt
  rw [dif_pos k.isLt]

theorem ms_slot (b : Fin 32) (k : Fin 500) (k' : Fin 512) (e : k'.val = k.val) : maskf (F := Ideal) mk (ValueIdx.ix2 b k') = Ref.mval mk b k := by
  obtain rfl : k' = ⟨k.val, slot_lt k⟩ := Fin.ext e
  rw [maskf_apply, vAt_slot]
  rfl

theorem ms_pad (b : Fin 32) (k : Fin 512) (h : 500 ≤ k.val) : maskf (F := Ideal) mk (ValueIdx.ix2 b k) = (0 : EReal) := by
  rw [maskf_apply]
  unfold vAt
  rw [dif_neg (by omega)]
  show (((0#32 : BitVec 32).toInt : ℝ) : EReal) = 0
  simp

include hin
theorem p1_slot (b : Fin 32) (k : Fin 500) (c : Fin 4) (y : Fin 2048) (e : y.val = k.val + 512 * c.val) :
    (argArr x0 x1 mk ind x4 o0 o1).p1 b (ValueIdx.ix1 y) = x0 (Ref.pix b c (ind (ValueIdx.ix2 b k)).toNat (hin _)) := by
  obtain rfl : y = col c ⟨k.val, slot_lt k⟩ := Fin.ext (by rw [e]; exact Nat.add_comm _ _)
  show atBig (shapeCast S8388608 x0 _) (list1 (F := Ideal) ind (ValueIdx.ix2 b (col c ⟨k.val, slot_lt k⟩))).toNat = _
  rw [list1_toNat ind hin, vAt_slot, f1_at]

theorem p2_slot (b : Fin 32) (k : Fin 500) (c : Fin 4) (y : Fin 2048) (e : y.val = k.val + 512 * c.val) :
    (argArr x0 x1 mk ind x4 o0 o1).p2 b (ValueIdx.ix1 y) = x1 (Ref.pix b c (ind (ValueIdx.ix2 b k)).toNat (hin _)) := by
  obtain rfl : y = col c ⟨k.val, slot_lt k⟩ := Fin.ext (by rw [e]; exact Nat.add_comm _ _)
  show atBig (split (F := Ideal) x1) (list2 (F := Ideal) ind (ValueIdx.ix2 b (col c ⟨k.val, slot_lt k⟩))).toNat = _
  rw [list2_toNat ind hin, vAt_slot, f2_at]

omit hin in
theorem tg_slot (b : Fin 32) (k : Fin 500) (c : Fin 4) (y : Fin 2048) (e : y.val = k.val + 512 * c.val) :
    (argArr x0 x1 mk ind x4 o0 o1).tg b (ValueIdx.ix1 y) = x4 (Ref.pt b k c) := by
  obtain rfl : y = col c ⟨k.val, slot_lt k⟩ := Fin.ext (by rw [e]; exact Nat.add_comm _ _)
  show atT (shapeCast S64000 x4 _) (list3 (ValueIdx.ix2 b (col c ⟨k.val, slot_lt k⟩))).toNat = _
  rw [list3_toNat, if_pos k.isLt, tt_at]

/-- The mask entry for column `y` (its slot), as a number. -/
def gm (mk : S32x500.Idx → BitVec 32) (b : Fin 32) (y : ℕ) : EReal := maskf (F := Ideal) mk (ValueIdx.ix2 b ⟨y % 512, Nat.mod_lt _ (by decide)⟩)

/-- What column `y` adds to the loss. -/
def gl (a : Arr Ideal) (mk : S32x500.Idx → BitVec 32) (b : Fin 32) (y : ℕ) : EReal :=
  kterm (gm mk b y) (a.p1 b (ValueIdx.ix1 ⟨y % 2048, Nat.mod_lt _ (by decide)⟩)) (a.p2 b (ValueIdx.ix1 ⟨y % 2048, Nat.mod_lt _ (by decide)⟩))
    (a.tg b (ValueIdx.ix1 ⟨y % 2048, Nat.mod_lt _ (by decide)⟩))

omit hin in
theorem chunk_at {α : Type} (x : S2048.Idx → α) (t : ℕ) (l : Fin 16) :
    chunk x t (ValueIdx.ix1 l) = x (ValueIdx.ix1 ⟨(l.val + 16 * t) % 2048, Nat.mod_lt _ (by decide)⟩) := by
  unfold chunk
  exact congrArg (fun n => x (ValueIdx.ix1 n)) (Fin.ext (congrArg (· % 2048) (Nat.add_comm _ _)))

omit hin in
theorem mchunk_at (b : Fin 32) (t : ℕ) (l : Fin 16) :
    mchunk (rowOf (maskf (F := Ideal) mk) b) t (ValueIdx.ix1 l) = gm mk b (l.val + 16 * t) := by
  unfold mchunk rowOf gm
  refine congrArg (fun n => maskf (F := Ideal) mk (ValueIdx.ix2 b n)) (Fin.ext ?_)
  show (16 * (t % 32) + l.val) % 512 = (l.val + 16 * t) % 512
  omega

omit hin in
theorem gm_pad (b : Fin 32) (c : Fin 4) (k : ℕ) (h : 500 ≤ k) (h' : k < 512) : gm mk b (k + 512 * c.val) = 0 :=
  ms_pad mk b _ (by show 500 ≤ (k + 512 * c.val) % 512; omega)

omit hin in
theorem gm_slot (b : Fin 32) (c : Fin 4) (k : Fin 500) : gm mk b (k.val + 512 * c.val) = Ref.mval mk b k :=
  ms_slot mk b k _ (by show (k.val + 512 * c.val) % 512 = k.val; omega)

/-- The loss row `b` accumulates. -/
theorem r0_row (b : Fin 32) :
    ∑ l : Fin 16, ((argArr x0 x1 mk ind x4 o0 o1).r0 (ValueIdx.ix2 b l) : EReal)
      = ∑ k : Fin 500, ∑ c : Fin 4, kterm (Ref.mval mk b k) (x0 (Ref.pix b c (ind (ValueIdx.ix2 b k)).toNat (hin _)))
          (x1 (Ref.pix b c (ind (ValueIdx.ix2 b k)).toNat (hin _))) (x4 (Ref.pt b k c)) := by
  generalize ha : argArr x0 x1 mk ind x4 o0 o1 = a
  have hms : a.ms = maskf mk := by rw [← ha]; rfl
  have e1 : ∀ l : Fin 16, (a.r0 (ValueIdx.ix2 b l) : EReal) = ∑ t ∈ Finset.range 128, gl a mk b (l.val + 16 * t) := fun l => by
    have e := (accs_at (rowOf a.ms b) (a.p1 b) (a.p2 b) (a.tg b) (ValueIdx.ix1 l) 128).1
    have e' : a.r0 (ValueIdx.ix2 b l) = (accs (rowOf a.ms b) (a.p1 b) (a.p2 b) (a.tg b) 128).1 (ValueIdx.ix1 l) := by
      show k2_pay5 (a.fin b).1 (ValueIdx.ix1 l) = _
      unfold k2_pay5 Arr.fin
      rw [shapeCast_self]
    rw [e', e, hms]
    refine Finset.sum_congr rfl fun t _ => ?_
    rw [mchunk_at, chunk_at, chunk_at, chunk_at]
    rfl
  rw [Finset.sum_congr rfl fun l _ => e1 l, row_sum]
  · refine Finset.sum_congr rfl fun k _ => Finset.sum_congr rfl fun c _ => ?_
    have hy : (k.val + 512 * c.val) % 2048 = k.val + 512 * c.val := by omega
    unfold gl
    subst ha
    rw [gm_slot, p1_slot x0 x1 mk ind x4 o0 o1 hin b k c _ hy, p2_slot x0 x1 mk ind x4 o0 o1 hin b k c _ hy,
      tg_slot x0 x1 mk ind x4 o0 o1 b k c _ hy]
  · intro c k h h'
    unfold gl kterm
    rw [gm_pad mk b c k h h', zero_mul, zero_mul]

omit hin in
/-- The mask count row `b` accumulates: every slot's mask once per channel. -/
theorem r1_row (b : Fin 32) :
    ∑ l : Fin 16, ((argArr x0 x1 mk ind x4 o0 o1).r1 (ValueIdx.ix2 b l) : EReal) = ∑ k : Fin 500, ∑ _c : Fin 4, Ref.mval mk b k := by
  generalize ha : argArr x0 x1 mk ind x4 o0 o1 = a
  have hms : a.ms = maskf mk := by rw [← ha]; rfl
  have e1 : ∀ l : Fin 16, (a.r1 (ValueIdx.ix2 b l) : EReal) = ∑ t ∈ Finset.range 128, gm mk b (l.val + 16 * t) := fun l => by
    have e := (accs_at (rowOf a.ms b) (a.p1 b) (a.p2 b) (a.tg b) (ValueIdx.ix1 l) 128).2
    have e' : a.r1 (ValueIdx.ix2 b l) = (accs (rowOf a.ms b) (a.p1 b) (a.p2 b) (a.tg b) 128).2 (ValueIdx.ix1 l) := by
      show k2_pay6 (a.fin b).2 (ValueIdx.ix1 l) = _
      unfold k2_pay6 Arr.fin
      rw [shapeCast_self]
    rw [e', e, hms]
    exact Finset.sum_congr rfl fun t _ => mchunk_at mk b t l
  rw [Finset.sum_congr rfl fun l _ => e1 l, row_sum _ fun c k h h' => gm_pad mk b c k h h']
  exact Finset.sum_congr rfl fun k _ => Finset.sum_congr rfl fun c _ => gm_slot mk b c k

end Row

/-! ## The two masked squared differences are equal -/

theorem kterm_eq (m p q t : EReal) (hm : m = 0 ∨ m = 1) : kterm m p q t = Ref.term m p q t := by
  unfold kterm Ref.term
  rcases hm with rfl | rfl
  · simp
  · simp only [one_mul, mul_one]
    induction p with
    | bot => induction q with
      | bot => induction t <;> simp
      | coe q => induction t <;> simp
      | top => induction t <;> simp
    | coe p => induction q with
      | bot => induction t <;> simp
      | coe q => induction t with
        | bot => simp
        | coe t => norm_cast; ring
        | top => simp
      | top => induction t with
        | bot => simp
        | coe t =>
          have e : (⊤ : EReal) - ((t : EReal) - (p : EReal)) = ⊤ := by
            rw [← EReal.coe_sub]
            exact EReal.top_sub_coe _
          rw [e]; simp
        | top => simp
    | top => induction q with
      | bot => induction t <;> simp
      | coe q => induction t <;> simp
      | top => induction t <;> simp

/-! ## The values are equal -/

theorem mval_cases (mk : S32x500.Idx → BitVec 32) (h : ∀ x, mk x = 0#32 ∨ mk x = 1#32) (b : Fin 32) (k : Fin 500) :
    Ref.mval mk b k = 0 ∨ Ref.mval mk b k = 1 := by
  unfold Ref.mval
  rcases h (ValueIdx.ix2 b k) with e | e
  · exact Or.inl (by rw [e]; simp)
  · exact Or.inr (by rw [e]; simp)

/-- Under the range condition the kernel's last quotient is the reference's value. -/
theorem value_same (x0 x1 : S32x4x256x256.Idx → Ideal .f32) (mk ind : S32x500.Idx → BitVec 32) (x4 : S32x500x4.Idx → Ideal .f32)
    (o0 o1 : S32x16.Idx → Ideal .f32) (h : Ok mk ind) :
    shapeCast S_ (quot (argArr x0 x1 mk ind x4 o0 o1).r0 (argArr x0 x1 mk ind x4 o0 o1).r1) shapeCasts_S1_S_ = Ref.value x0 x1 mk ind x4 := by
  funext j
  rw [Ref.value_eq x0 x1 mk ind x4 h.ind j]
  refine (quot_at _ _ _).trans ?_
  rw [Finset.sum_congr rfl fun b _ => r0_row x0 x1 mk ind x4 o0 o1 h.ind b, Finset.sum_congr rfl fun b _ => r1_row x0 x1 mk ind x4 o0 o1 b]
  refine congrArg (fun z => Ideal.div z _) (Finset.sum_congr rfl fun b _ => Finset.sum_congr rfl fun k _ => Finset.sum_congr rfl fun c _ => ?_)
  exact kterm_eq _ _ _ _ (mval_cases mk h.mask b k)

end Cert.Proof
-- ==== Proof.lean ====
/-
  The claim: the kernel's program and the reference run, the idealization keeps the kernel's text, and at extended reals
  the kernel and the reference compute the same value.
-/
module

public import proofs.«01_k».proof.Defs
public import proofs.«01_k».proof.Proof.Frames
public import proofs.«01_k».proof.Proof.KerValue

@[expose] public section

noncomputable section

namespace Cert.Proof

open Idealize.ShloMosaic Idealize.SL.Sem

/-- At extended reals, from equal arguments that meet the range condition, the kernel's program and the reference end with
    the same result. -/
theorem algebraic : Cert.algebraic_KernelIdeal_ReferenceIdeal := fun m g m' g' hpre hargs => by
  refine ⟨fun c => Ref.value (a0 m c) (a1 m c) (a2 m c) (a3 m c) (a4 m c), ?_, ?_⟩
  · refine (θ_run (Cert.KernelIdeal.defs (F := Ideal)) _ _).mono (fun r p c => ⟨((p.1 c).1.trans ?_), (p.1 c).2⟩)
      (run_main (F := Ideal) m g fun d => arrs_inRange (F := Ideal) m d (ok_KernelIdeal m hpre d))
    rw [arrs_eq]
    exact value_same _ _ _ _ _ _ _ (ok_KernelIdeal m hpre c)
  · refine (θ_run (Cert.ReferenceIdeal.defs (F := Ideal)) _ _).mono (fun r p c => ⟨((p c).1.trans ?_), (p c).2⟩)
      (Cert.ReferenceIdeal.Value.run m' g')
    obtain ⟨h0, h1, h2, h3, h4⟩ := hargs c
    rw [Ref.res_eq, h0, h1, h2, h3, h4]

theorem claim : Cert.Claim :=
  ⟨Cert.Kernel.Gen.facts, Cert.KernelIdeal.Gen.facts, Cert.ReferenceIdeal.Gen.facts, Cert.Pre_in_range.Gen.facts,
    frame_Kernel, frame_KernelIdeal, frame_Reference, frame_Reference_in_range, trivial, algebraic⟩

end Cert.Proof

end
